-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "scale" .f32 0x337FF001#32 ((16781312⁻¹ : ℝ) : EReal)

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S4096x64 : Shape := ⟨2, ![4096, 64]⟩
abbrev S4096x1 : Shape := ⟨2, ![4096, 1]⟩
abbrev S100000x64 : Shape := ⟨2, ![100000, 64]⟩
abbrev S100000 : Shape := ⟨1, ![100000]⟩
abbrev S4096 : Shape := ⟨1, ![4096]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x64 .f32) (main_arg1 : IVec S4096x1 32) (main_arg2 : FVec F S100000x64 .f32) (main_arg3 : FVec F S100000 .f32) (main_arg4 : IVec S4096 32) (main_arg5 : FVec F S4096x1 .f32) (main_arg6 : FVec F S4096 .f32) : IVec S_ 1 :=
  let main_c : IVec S_ 32 := constantI S_ 32 0#32
  let main_v0 : IVec S4096x1 32 := broadcastInDim S4096x1 ![] bcast_S_S4096x1 main_c
  let main_v1 : IVec S4096x1 1 := cmpi .sge main_arg1 main_v0
  let main_c_0 : IVec S_ 1 := constantI S_ 1 1#1
  let main_v2 : IVec S_ 1 := (fun x v => Host.reduce IntOp.andi x v reducesTo_S4096x1_S_d0_1 h_S_) main_v1 main_c_0
  let main_c_1 : IVec S_ 32 := constantI S_ 32 100000#32
  let main_v3 : IVec S4096x1 32 := broadcastInDim S4096x1 ![] bcast_S_S4096x1 main_c_1
  let main_v4 : IVec S4096x1 1 := cmpi .slt main_arg1 main_v3
  let main_c_2 : IVec S_ 1 := constantI S_ 1 1#1
  let main_v5 : IVec S_ 1 := (fun x v => Host.reduce IntOp.andi x v reducesTo_S4096x1_S_d0_1 h_S_) main_v4 main_c_2
  let main_v6 : IVec S_ 1 := andi main_v2 main_v5
  let main_c_3 : IVec S_ 32 := constantI S_ 32 0#32
  let main_v7 : IVec S4096 32 := broadcastInDim S4096 ![] bcast_S_S4096 main_c_3
  let main_v8 : IVec S4096 1 := cmpi .sge main_arg4 main_v7
  let main_c_4 : IVec S_ 1 := constantI S_ 1 1#1
  let main_v9 : IVec S_ 1 := (fun x v => Host.reduce IntOp.andi x v reducesTo_S4096_S_d0 h_S_) main_v8 main_c_4
  let main_v10 : IVec S_ 1 := andi main_v6 main_v9
  let main_c_5 : IVec S_ 32 := constantI S_ 32 100000#32
  let main_v11 : IVec S4096 32 := broadcastInDim S4096 ![] bcast_S_S4096 main_c_5
  let main_v12 : IVec S4096 1 := cmpi .slt main_arg4 main_v11
  let main_c_6 : IVec S_ 1 := constantI S_ 1 1#1
  let main_v13 : IVec S_ 1 := (fun x v => Host.reduce IntOp.andi x v reducesTo_S4096_S_d0 h_S_) main_v12 main_c_6
  let main_v14 : IVec S_ 1 := andi main_v10 main_v13
  main_v14
-- ==== Kernel.lean ====
abbrev S4096x64 : Shape := ⟨2, ![4096, 64]⟩
abbrev S4096x1 : Shape := ⟨2, ![4096, 1]⟩
abbrev S100000x64 : Shape := ⟨2, ![100000, 64]⟩
abbrev S100000 : Shape := ⟨1, ![100000]⟩
abbrev S4096 : Shape := ⟨1, ![4096]⟩
abbrev S8192 : Shape := ⟨1, ![8192]⟩
abbrev S50000x128 : Shape := ⟨2, ![50000, 128]⟩
abbrev S_ : Shape := ⟨0, ![]⟩
abbrev S100096 : Shape := ⟨1, ![100096]⟩
abbrev S782x128 : Shape := ⟨2, ![782, 128]⟩
abbrev S32x2x128 : Shape := ⟨3, ![32, 2, 128]⟩
abbrev S8192x128 : Shape := ⟨2, ![8192, 128]⟩
abbrev S2x128 : Shape := ⟨2, ![2, 128]⟩
abbrev S2x128x128 : Shape := ⟨3, ![2, 128, 128]⟩
abbrev S1x2x128 : Shape := ⟨3, ![1, 2, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4096x128 : Shape := ⟨2, ![4096, 128]⟩
abbrev S1x1 : Shape := ⟨2, ![1, 1]⟩
abbrev S256x64 : Shape := ⟨2, ![256, 64]⟩
abbrev S256x128 : Shape := ⟨2, ![256, 128]⟩
abbrev S256x1 : Shape := ⟨2, ![256, 1]⟩
abbrev S4096x256 : Shape := ⟨2, ![4096, 256]⟩
abbrev S256x256 : Shape := ⟨2, ![256, 256]⟩
abbrev S256x4096 : Shape := ⟨2, ![256, 4096]⟩
abbrev S1x256x4096 : Shape := ⟨3, ![1, 256, 4096]⟩
abbrev S1 : Shape := ⟨1, ![1]⟩
abbrev S1x1x1 : Shape := ⟨3, ![1, 1, 1]⟩
abbrev S256 : Shape := ⟨1, ![256]⟩
abbrev S1x256x1 : Shape := ⟨3, ![1, 256, 1]⟩

abbrev nBuf : Table → Nat
  | .hbm => 35
  | .local .tc .vmem => 15
  | .local .tc .smem => 1
  | .local .scVector .vmem => 4
  | _ => 0

abbrev bufTy : (tb : Table) → Fin (nBuf tb) → BufTy
  | .hbm, ⟨0, _⟩ => ⟨S4096x64, .f32⟩
  | .hbm, ⟨1, _⟩ => ⟨S4096x1, .i32⟩
  | .hbm, ⟨2, _⟩ => ⟨S100000x64, .f32⟩
  | .hbm, ⟨3, _⟩ => ⟨S100000, .f32⟩
  | .hbm, ⟨4, _⟩ => ⟨S4096, .i32⟩
  | .hbm, ⟨5, _⟩ => ⟨S4096x1, .f32⟩
  | .hbm, ⟨6, _⟩ => ⟨S4096, .f32⟩
  | .hbm, ⟨7, _⟩ => ⟨S4096, .i32⟩
  | .hbm, ⟨8, _⟩ => ⟨S8192, .i32⟩
  | .hbm, ⟨9, _⟩ => ⟨S50000x128, .f32⟩
  | .hbm, ⟨10, _⟩ => ⟨S_, .i32⟩
  | .hbm, ⟨11, _⟩ => ⟨S_, .f32⟩
  | .hbm, ⟨12, _⟩ => ⟨S100096, .f32⟩
  | .hbm, ⟨13, _⟩ => ⟨S782x128, .f32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S32x2x128, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S32x2x128, .i32⟩
  | .hbm, ⟨22, _⟩ => ⟨S8192x128, .f32⟩
  | .hbm, ⟨23, _⟩ => ⟨S8192x128, .f32⟩
  | .hbm, ⟨24, _⟩ => ⟨S4096x128, .f32⟩
  | .hbm, ⟨25, _⟩ => ⟨S4096x128, .f32⟩
  | .hbm, ⟨26, _⟩ => ⟨S4096, .i32⟩
  | .hbm, ⟨27, _⟩ => ⟨S4096x1, .i32⟩
  | .hbm, ⟨28, _⟩ => ⟨S4096x128, .f32⟩
  | .hbm, ⟨29, _⟩ => ⟨S4096x128, .f32⟩
  | .hbm, ⟨30, _⟩ => ⟨S4096, .i32⟩
  | .hbm, ⟨31, _⟩ => ⟨S4096x1, .i32⟩
  | .hbm, ⟨32, _⟩ => ⟨S4096x1, .f32⟩
  | .hbm, ⟨33, _⟩ => ⟨S1x1, .f32⟩
  | .hbm, ⟨34, _⟩ => ⟨S_, .f32⟩
  | .local .tc .vmem, ⟨0, _⟩ => ⟨S256x64, .f32⟩
  | .local .tc .vmem, ⟨1, _⟩ => ⟨S256x64, .f32⟩
  | .local .tc .vmem, ⟨2, _⟩ => ⟨S256x128, .f32⟩
  | .local .tc .vmem, ⟨3, _⟩ => ⟨S256x128, .f32⟩
  | .local .tc .vmem, ⟨4, _⟩ => ⟨S256x128, .f32⟩
  | .local .tc .vmem, ⟨5, _⟩ => ⟨S256x128, .f32⟩
  | .local .tc .vmem, ⟨6, _⟩ => ⟨S256x1, .i32⟩
  | .local .tc .vmem, ⟨7, _⟩ => ⟨S256x1, .i32⟩
  | .local .tc .vmem, ⟨8, _⟩ => ⟨S256x1, .f32⟩
  | .local .tc .vmem, ⟨9, _⟩ => ⟨S256x1, .f32⟩
  | .local .tc .vmem, ⟨10, _⟩ => ⟨S4096x128, .f32⟩
  | .local .tc .vmem, ⟨11, _⟩ => ⟨S4096x128, .f32⟩
  | .local .tc .vmem, ⟨12, _⟩ => ⟨S4096x1, .i32⟩
  | .local .tc .vmem, ⟨13, _⟩ => ⟨S4096x1, .f32⟩
  | .local .tc .vmem, ⟨14, _⟩ => ⟨S4096x256, .f32⟩
  | .local .tc .smem, ⟨0, _⟩ => ⟨S1x1, .f32⟩
  | .local .scVector .vmem, ⟨0, _⟩ => ⟨S2x128, .i32⟩
  | .local .scVector .vmem, ⟨1, _⟩ => ⟨S2x128, .i32⟩
  | .local .scVector .vmem, ⟨2, _⟩ => ⟨S2x128x128, .f32⟩
  | .local .scVector .vmem, ⟨3, _⟩ => ⟨S2x128x128, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v7_scv : Ref sig .scVector := ⟨.hbm, 17, rfl⟩
abbrev main_v10_scv : Ref sig .scVector := ⟨.hbm, 21, rfl⟩
abbrev main_v2_scv : Ref sig .scVector := ⟨.hbm, 9, rfl⟩
abbrev main_v4_scv : Ref sig .scVector := ⟨.hbm, 13, rfl⟩
abbrev main_v11_0_scv : Ref sig .scVector := ⟨.hbm, 22, rfl⟩
abbrev main_v11_1_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_scratch0 : Ref sig .tc := ⟨.vmem, 14, rfl⟩
abbrev cc1_stg9_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_61_r0 : BitVec 32 := 0#32
  let c0_i32_62_r0 : BitVec 32 := 0#32
  ![v1.toNat, 0, 0]
def k0_off2 (i : grid0.Coords) (c0_i32_54 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v43 : BitVec 32 := Scalar.addi v2 c0_i32_54
  let c0_i32_63_r2 : BitVec 32 := 0#32
  ![v43.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S4096x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4096x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4096x1 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .smem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "scale" => some ((16781312⁻¹ : ℝ) : EReal)
  | _ => none
-- ==== ReferenceIdeal.lean ====
abbrev S4096x64 : Shape := ⟨2, ![4096, 64]⟩
abbrev S4096x1 : Shape := ⟨2, ![4096, 1]⟩
abbrev S100000x64 : Shape := ⟨2, ![100000, 64]⟩
abbrev S100000 : Shape := ⟨1, ![100000]⟩
abbrev S4096 : Shape := ⟨1, ![4096]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x64 : Shape := ⟨2, ![8192, 64]⟩
abbrev S4096x1x64 : Shape := ⟨3, ![4096, 1, 64]⟩
abbrev S64x4096 : Shape := ⟨2, ![64, 4096]⟩
abbrev S4096x4096 : Shape := ⟨2, ![4096, 4096]⟩
abbrev S1x4096 : Shape := ⟨2, ![1, 4096]⟩
abbrev S4096x4097 : Shape := ⟨2, ![4096, 4097]⟩

abbrev nBuf : Space → Nat
  | .hbm => 127
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x1, .i32⟩
  | .hbm, ⟨2, _⟩ => ⟨S100000x64, .f32⟩
  | .hbm, ⟨3, _⟩ => ⟨S100000, .f32⟩
  | .hbm, ⟨4, _⟩ => ⟨S4096, .i32⟩
  | .hbm, ⟨5, _⟩ => ⟨S4096x1, .f32⟩
  | .hbm, ⟨6, _⟩ => ⟨S4096, .f32⟩
  | .hbm, ⟨7, _⟩ => ⟨S4096, .i32⟩
  | .hbm, ⟨8, _⟩ => ⟨S8192, .i32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S1x1, .i32⟩
  | .hbm, ⟨22, _⟩ => ⟨S8192x1, .i32⟩
  | .hbm, ⟨23, _⟩ => ⟨S8192x1, .i1⟩
  | .hbm, ⟨24, _⟩ => ⟨S8192x1, .i1⟩
  | .hbm, ⟨25, _⟩ => ⟨S_, .i1⟩
  | .hbm, ⟨26, _⟩ => ⟨S8192, .i1⟩
  | .hbm, ⟨27, _⟩ => ⟨S8192x64, .f32⟩
  | .hbm, ⟨28, _⟩ => ⟨S8192x64, .i1⟩
  | .hbm, ⟨29, _⟩ => ⟨S_, .f32⟩
  | .hbm, ⟨30, _⟩ => ⟨S8192x64, .f32⟩
  | .hbm, ⟨31, _⟩ => ⟨S8192x64, .f32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S1, .i32⟩
  | .hbm, ⟨41, _⟩ => ⟨S_, .i32⟩
  | .hbm, ⟨42, _⟩ => ⟨S8192x1, .i32⟩
  | .hbm, ⟨43, _⟩ => ⟨S8192x1, .i1⟩
  | .hbm, ⟨44, _⟩ => ⟨S1x1, .i32⟩
  | .hbm, ⟨45, _⟩ => ⟨S8192x1, .i32⟩
  | .hbm, ⟨46, _⟩ => ⟨S8192x1, .i1⟩
  | .hbm, ⟨47, _⟩ => ⟨S8192x1, .i1⟩
  | .hbm, ⟨48, _⟩ => ⟨S_, .i1⟩
  | .hbm, ⟨49, _⟩ => ⟨S8192, .i1⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S4096x64, .f32⟩
  | .hbm, ⟨55, _⟩ => ⟨S4096x1x64, .f32⟩
  | .hbm, ⟨56, _⟩ => ⟨S4096, .f32⟩
  | .hbm, ⟨57, _⟩ => ⟨S4096x1, .f32⟩
  | .hbm, ⟨58, _⟩ => ⟨S4096x64, .f32⟩
  | .hbm, ⟨59, _⟩ => ⟨S4096, .f32⟩
  | .hbm, ⟨60, _⟩ => ⟨S4096x1x64, .f32⟩
  | .hbm, ⟨61, _⟩ => ⟨S4096x1x64, .f32⟩
  | .hbm, ⟨62, _⟩ => ⟨S4096x64, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x1, .f32⟩
  | .hbm, ⟨67, _⟩ => ⟨S64x4096, .f32⟩
  | .hbm, ⟨68, _⟩ => ⟨S4096x4096, .f32⟩
  | .hbm, ⟨69, _⟩ => ⟨S1x4096, .f32⟩
  | .hbm, ⟨70, _⟩ => ⟨S4096x4096, .f32⟩
  | .hbm, ⟨71, _⟩ => ⟨S4096x4096, .f32⟩
  | .hbm, ⟨72, _⟩ => ⟨S4096x1, .f32⟩
  | .hbm, ⟨73, _⟩ => ⟨S4096x1, .f32⟩
  | .hbm, ⟨74, _⟩ => ⟨S4096, .f32⟩
  | .hbm, ⟨75, _⟩ => ⟨S1x4096, .f32⟩
  | .hbm, ⟨76, _⟩ => ⟨S4096x4096, .f32⟩
  | .hbm, ⟨77, _⟩ => ⟨S4096x4096, .f32⟩
  | .hbm, ⟨78, _⟩ => ⟨S4096x4097, .f32⟩
  | .hbm, ⟨79, _⟩ => ⟨S_, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x4096, .f32⟩
  | .hbm, ⟨86, _⟩ => ⟨S4096x4097, .f32⟩
  | .hbm, ⟨87, _⟩ => ⟨S4096x4097, .f32⟩
  | .hbm, ⟨88, _⟩ => ⟨S4096x4097, .f32⟩
  | .hbm, ⟨89, _⟩ => ⟨S_, .f32⟩
  | .hbm, ⟨90, _⟩ => ⟨S4096x4097, .f32⟩
  | .hbm, ⟨91, _⟩ => ⟨S4096x4097, .f32⟩
  | .hbm, ⟨92, _⟩ => ⟨S_, .f32⟩
  | .hbm, ⟨93, _⟩ => ⟨S4096x4097, .f32⟩
  | .hbm, ⟨94, _⟩ => ⟨S4096x4097, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S4096x4097, .f32⟩
  | .hbm, ⟨99, _⟩ => ⟨S4096x4097, .f32⟩
  | .hbm, ⟨100, _⟩ => ⟨S_, .f32⟩
  | .hbm, ⟨101, _⟩ => ⟨S4096x4097, .f32⟩
  | .hbm, ⟨102, _⟩ => ⟨S4096x4097, .f32⟩
  | .hbm, ⟨103, _⟩ => ⟨S4096x4097, .f32⟩
  | .hbm, ⟨104, _⟩ => ⟨S4096x4097, .f32⟩
  | .hbm, ⟨105, _⟩ => ⟨S_, .f32⟩
  | .hbm, ⟨106, _⟩ => ⟨S4096x4097, .f32⟩
  | .hbm, ⟨107, _⟩ => ⟨S4096x4097, .f32⟩
  | .hbm, ⟨108, _⟩ => ⟨S_, .f32⟩
  | .hbm, ⟨109, _⟩ => ⟨S4096x4097, .f32⟩
  | .hbm, ⟨110, _⟩ => ⟨S4096x4097, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S4096x4097, .f32⟩
  | .hbm, ⟨115, _⟩ => ⟨S4096x4097, .f32⟩
  | .hbm, ⟨116, _⟩ => ⟨S_, .f32⟩
  | .hbm, ⟨117, _⟩ => ⟨S4096x4097, .f32⟩
  | .hbm, ⟨118, _⟩ => ⟨S4096x4097, .f32⟩
  | .hbm, ⟨119, _⟩ => ⟨S4096x4097, .f32⟩
  | .hbm, ⟨120, _⟩ => ⟨S4096x4097, .f32⟩
  | .hbm, ⟨121, _⟩ => ⟨S4096x4097, .f32⟩
  | .hbm, ⟨122, _⟩ => ⟨S4096x4097, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_0 : Ref sig .tc := ⟨.hbm, 79, rfl⟩
abbrev main_v28 : Ref sig .tc := ⟨.hbm, 80, rfl⟩
abbrev main_cst_1 : Ref sig .tc := ⟨.hbm, 81, rfl⟩
abbrev main_v29 : Ref sig .tc := ⟨.hbm, 82, rfl⟩
abbrev main_v30 : Ref sig .tc := ⟨.hbm, 83, rfl⟩
abbrev main_cst_2 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_3 : Ref sig .tc := ⟨.hbm, 89, rfl⟩
abbrev main_v35 : Ref sig .tc := ⟨.hbm, 90, rfl⟩
abbrev main_v36 : Ref sig .tc := ⟨.hbm, 91, rfl⟩
abbrev main_cst_4 : Ref sig .tc := ⟨.hbm, 92, rfl⟩
abbrev main_v37 : Ref sig .tc := ⟨.hbm, 93, rfl⟩
abbrev main_v38 : Ref sig .tc := ⟨.hbm, 94, rfl⟩
abbrev main_cst_5 : Ref sig .tc := ⟨.hbm, 95, rfl⟩
abbrev main_cst_6 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_7 : Ref sig .tc := ⟨.hbm, 105, rfl⟩
abbrev main_v42 : Ref sig .tc := ⟨.hbm, 106, rfl⟩
abbrev main_v43 : Ref sig .tc := ⟨.hbm, 107, rfl⟩
abbrev main_cst_8 : Ref sig .tc := ⟨.hbm, 108, rfl⟩
abbrev main_v44 : Ref sig .tc := ⟨.hbm, 109, rfl⟩
abbrev main_v45 : Ref sig .tc := ⟨.hbm, 110, rfl⟩
abbrev main_cst_9 : Ref sig .tc := ⟨.hbm, 111, rfl⟩
abbrev main_cst_10 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_11 : Ref sig .tc := ⟨.hbm, 123, rfl⟩
abbrev main_v51 : Ref sig .tc := ⟨.hbm, 124, rfl⟩
abbrev main_cst_12 : Ref sig .tc := ⟨.hbm, 125, rfl⟩
abbrev main_v52 : Ref sig .tc := ⟨.hbm, 126, rfl⟩

abbrev nD : Nat := 1
abbrev τ : Topo := Topo.v7x

variable {F : FTy → Type} [FloatOps F]
-- ==== Proof.GatherBatch.lean ====
/-
  Two indirect gathers outstanding on one DMA semaphore.

  A gather issues one transfer per row of its list. When a second gather starts on the semaphore before the first
  was waited for, the rows of both are transfers of ONE counted batch: a wait that consumes the first gather's units
  says nothing about either destination, the wait that brings the total consumed to the whole gives back every row.

  `wp_gatherIntoBatch` issues a gather whose rows are the batch's transfers `k, …, k + o - 1`. `rowsBack_join` puts a
  gather's returned rows together: the destination written with the gathered payload, the source's and the list's
  shares whole again.
-/
module

public import Idealize.ShloMosaic.Lib.Batch
public import Idealize.ShloMosaic.Lib.SparseCore.Stream

@[expose] public section

noncomputable section

namespace Idealize.ShloMosaic.SparseCore.GatherBatch

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The batch's transfers from `k` on, `o` of them. -/
def nextIx {n : ℕ} (k o : ℕ) (h : k + o ≤ n) : Fin o ↪ Fin n where
  toFun j := ⟨k + j.val, by omega⟩
  inj' x y hxy := Fin.ext (Nat.add_left_cancel (Fin.mk.inj hxy))

/-- The transfers not yet started from `k` on are the next `o` and those from `k + o` on. -/
theorem pending_split {n : ℕ} (Φ : Fin n → sProp 𝕄) (k o : ℕ) (h : k + o ≤ n) :
    bigSep (pending k) Φ = iprop((bigSep Finset.univ fun j : Fin o => Φ ⟨k + j.val, by omega⟩) ∗ bigSep (pending (k + o)) Φ) := by
  have hset : (pending k : Finset (Fin n)) = Finset.univ.map (nextIx k o h) ∪ pending (k + o) := by
    ext t
    rw [Finset.mem_union, Finset.mem_map]
    unfold pending
    rw [Finset.mem_filter, Finset.mem_filter]
    constructor
    · rintro ⟨-, ht⟩
      rcases Nat.lt_or_ge t.val (k + o) with hlt | hge
      · exact Or.inl ⟨⟨t.val - k, by omega⟩, Finset.mem_univ _, Fin.ext (Nat.add_sub_cancel' ht)⟩
      · exact Or.inr ⟨Finset.mem_univ _, hge⟩
    · rintro (⟨j, -, rfl⟩ | ⟨-, ht⟩)
      · exact ⟨Finset.mem_univ _, Nat.le_add_right k j.val⟩
      · exact ⟨Finset.mem_univ _, by omega⟩
  rw [hset, BI.bigSep_union, BI.bigSep_map]
  · rfl
  · refine Finset.disjoint_left.mpr fun t ht ht' => ?_
    obtain ⟨j, -, rfl⟩ := Finset.mem_map.mp ht
    have h1 : k + o ≤ k + j.val := (Finset.mem_filter.mp ht').2
    have := j.isLt
    omega

/-- What row `j` of the destination receives: the source's row the list names for it. -/
def rowPay (src : Memref sig c.2.kind sp s₀ e) (hg : s₀.Gathers a s) (fs : Buf (Elt F) (src.view.loc c))
    (r : Fin (s.size hg.axis') → Fin (s₀.size hg.axis)) (j : Fin (s.size hg.axis')) : (s.rowShape hg.axis').Idx → Elt F e :=
  fun i => src.view.read (Elt F) fs (hg.rowIdx (r j) i)

/-- What a gather's row `j` gives back: the destination's row written with the row the list names, the list's entry
    and a piece of the source's share. -/
def rowBack (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) : sProp 𝕄 :=
  iprop(((dst.view.loc c ↦[(dst.view.slice (s.rowRect hg.axis' j)).set]{fullShare}
            ((dst.view.slice (s.rowRect hg.axis' j)).write (Elt F) fd (rowPay c src hg fs r j) Finset.univ))
        ∗ (offs.view.loc c ↦[{offs.view.emb (si.rowMajor.symm (j.cast hn.symm))}]{qo} fo))
      ∗ (src.view.loc c ↦[src.view.set]{pieceOf q _ ho j} fs))

instance rowBack_storable (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) (j : Fin (s.size hg.axis')) :
    Storable (upEmb : UEmb _ 𝕄) (rowBack c src dst hg offs hn q qo fs fd fo ho r j) := by
  unfold rowBack; infer_instance

/-- The rows of a gather, all given back, are the destination written with the gathered payload and the shares of the
    source and of the list. -/
theorem rowsBack_join (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (r : Fin (s.size hg.axis') → Fin (s₀.size hg.axis)) :
    (bigSep Finset.univ (rowBack c src dst hg offs hn q qo fs fd fo ho r) : sProp 𝕄)
      ⊢ iprop((dst.view.loc c ↦[dst.view.set]{fullShare} (dst.view.write (Elt F) fd (gatherPayload hg (src.view.read (Elt F) fs) r) Finset.univ))
          ∗ (offs.view.loc c ↦[offs.view.set]{qo} fo) ∗ (src.view.loc c ↦[src.view.set]{q} fs)) := by
  have hen : Function.Bijective fun j : Fin (s.size hg.axis') => si.rowMajor.symm (j.cast hn.symm) :=
    si.rowMajor.symm.bijective.comp (finCongr hn.symm).bijective
  unfold rowBack
  rw [BI.bigSep_sep', BI.bigSep_sep']
  iintro ⟨⟨Hd, Ho⟩, Hs⟩
  isplitl [Hd]
  · iapply (pointsTo_rows_write c dst.view hg.axis' fd (rowPay c src hg fs r) (gatherPayload hg (src.view.read (Elt F) fs) r)
      fun j i => by unfold gatherPayload rowPay; rw [Shape.Gathers.idx_rowRect_emb]) $$ Hd
  isplitl [Ho]
  · iapply (Entails.of_eq (pointsTo_entries c offs.view _ hen qo fo).symm) $$ Ho
  · iapply (Entails.of_eq (pointsTo_piecesOf (src.view.set) fs ho q).symm) $$ Hs

/-- A gather issued as the next `o` transfers of a batch on its semaphore. -/
theorem wp_gatherIntoBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {k u : ℕ}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hk : k + s.size hg.axis' ≤ n) (hu : u ≤ k * N)
    (hD : ∀ j, rowBack c src dst hg offs hn q qo fs fd fo ho (rows (offs.view.read (Elt F) fo) hn hin) j ⊢ D ⟨k + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k u)
      ⊢ iprop((Batch EC c (.dma sem) ι N D (k + s.size hg.axis') u -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  have agree : S.RowsAgree := by
    intro j x x' ρ ρ' h h'
    obtain ⟨_, _, rfl⟩ := Option.map_eq_some_iff.mp h
    obtain ⟨_, _, rfl⟩ := Option.map_eq_some_iff.mp h'
    rfl
  have named : ∀ j, S.row j (S.word fo j) = some (gatherRow c src dst hg sem hsrc he hsp hr j (r j)) := fun j => by
    change (rowOf (s₀.size hg.axis) (offs.view.read (Elt F) fo (S.entry j))).map _ = _
    rw [rowOf_of_lt (hin _)]; rfl
  have total : ∑ j, (gatherRow (F := F) c src dst hg sem hsrc he hsp hr j (r j)).dst.view.dmaCredit = s.size hg.axis' * N := by
    rw [Finset.sum_congr rfl fun j _ => hN j, Finset.sum_const, Finset.card_univ, Fintype.card_fin, smul_eq_mul]
  have hen : Function.Bijective fun j : Fin (s.size hg.axis') => si.rowMajor.symm (j.cast hn.symm) :=
    si.rowMajor.symm.bijective.comp (finCongr hn.symm).bijective
  unfold Batch
  iintro ⟨Hs, Hd, Ho, ⟨%γ, %γ₀, %κ, #Hinv, Hp, H0, Hc⟩⟩ Hk
  ihave Hp := (Entails.of_eq (pending_split (fun t => count EC (γ t) 0) k _ hk)) $$ Hp
  icases Hp with ⟨Hγ, Hp⟩
  ihave Hd := (Entails.of_eq (pointsTo_rows c dst.view hg.axis' fullShare fd)) $$ Hd
  ihave Ho := (Entails.of_eq (pointsTo_entries c offs.view _ hen qo fo)) $$ Ho
  ihave Hs := (Entails.of_eq (pointsTo_piecesOf (src.view.set) fs ho q)) $$ Hs
  iapply (wp_enqueueIndirectDma 𝒱 c bd Set.univ (qo := qo) (fo := fo)
    (rd := fun j => gatherRow c src dst hg sem hsrc he hsp hr j (r j)) ι (s.size hg.axis' * N) agree named total) $$ [Hd Ho Hs Hγ]
  · have row : ∀ j, iprop(inv κ (batchBody EC (c, SemLoc.dma sem) N D γ γ₀)
          ∗ ((dst.view.loc c ↦[(dst.view.slice (s.rowRect hg.axis' j)).set]{fullShare} fd)
            ∗ (offs.view.loc c ↦[{offs.view.emb (si.rowMajor.symm (j.cast hn.symm))}]{qo} fo)
            ∗ (src.view.loc c ↦[src.view.set]{pieceOf q _ ho j} fs) ∗ count EC (γ ⟨k + j.val, by omega⟩) 0))
        ⊢ iprop(S.heldEntry qo fo j ∗ (S.heldEntry qo fo j -∗ rowRes c (gatherRow c src dst hg sem hsrc he hsp hr j (r j)))) := fun j => by
      iintro ⟨#Hinv, Hr, He, Hq, Hγ⟩
      isplitl [He]; · iexact He
      iintro He
      unfold rowRes
      iexists pieceOf q _ ho j, fs, iprop((dst.view.loc c ↦[(dst.view.slice (s.rowRect hg.axis' j)).set]{fullShare}
            ((dst.view.slice (s.rowRect hg.axis' j)).write (Elt F) fd (rowPay c src hg fs r j) Finset.univ))
          ∗ (offs.view.loc c ↦[{offs.view.emb (si.rowMajor.symm (j.cast hn.symm))}]{qo} fo))
      isplitl [Hq]; · iexact Hq
      isplitl [Hr He]
      · iapply writeUpdate_frame
        isplitl [Hr]
        · iapply (pointsTo_writeUpdate c (v := dst.view.slice (s.rowRect hg.axis' j)) subset_rfl) $$ Hr
        · iexact He
      · have cr := Transfers.batch_creditUpdate EC (g := (c, SemLoc.dma sem)) (N := N) (D := D) (γ := γ) (γ₀ := γ₀) (ι := κ)
          ⟨k + j.val, by omega⟩ (hD j)
        have hj : (gatherRow (F := F) c src dst hg sem hsrc he hsp hr j (r j)).dst.view.amount (.dma sem) = N := hN j
        rw [hj]
        iapply cr
        isplitr; · iexact Hinv
        iexact Hγ
    unfold Stream.res
    ihave H := Transfers.bigSep_sep_in _ _ _ $$ [Hs Hγ]; · isplitl [Hs] <;> iassumption
    ihave H := Transfers.bigSep_sep_in _ _ _ $$ [Ho H]; · isplitl [Ho] <;> iassumption
    ihave H := Transfers.bigSep_sep_in _ _ _ $$ [Hd H]; · isplitl [Hd] <;> iassumption
    iapply (Transfers.bigSep_mono_pers Finset.univ _ _ _ fun j _ => row j)
    isplitr; · iexact Hinv
    iexact H
  · iintro Hn
    iapply Hk
    iexists γ, γ₀, κ
    isplitr; · iexact Hinv
    isplitl [Hp]; · iexact Hp
    isplitl [H0]; · iexact H0
    have add : tallyAt (c, SemLoc.dma sem) ι ((k + s.size hg.axis') * N - u)
        = tallyAt (c, SemLoc.dma sem) ι (k * N - u) + tallyAt (c, SemLoc.dma sem) ι (s.size hg.axis' * N) := by
      rw [tallyAt_add]; congr 1; rw [Nat.add_mul]; omega
    rw [add]
    iapply (cred_add _ _).2
    isplitl [Hc] <;> iassumption

/-! ## Two gathers in one batch -/

instance append_storable {n₁ n₂ : ℕ} (A : Fin n₁ → sProp 𝕄) (B : Fin n₂ → sProp 𝕄)
    [∀ j, Storable (upEmb : UEmb _ 𝕄) (A j)] [∀ j, Storable (upEmb : UEmb _ 𝕄) (B j)] (t : Fin (n₁ + n₂)) :
    Storable (upEmb : UEmb _ 𝕄) (Fin.append A B t) := by
  refine Fin.addCases (fun i => ?_) (fun i => ?_) t
  · rw [Fin.append_left]; infer_instance
  · rw [Fin.append_right]; infer_instance

/-- The first gather's row is the batch's element of its own number; -/
theorem append_fst {n₁ n₂ : ℕ} (A : Fin n₁ → sProp 𝕄) (B : Fin n₂ → sProp 𝕄) (j : Fin n₁) (h : 0 + j.val < n₁ + n₂) :
    A j ⊢ Fin.append A B ⟨0 + j.val, h⟩ := by
  rw [show (⟨0 + j.val, h⟩ : Fin (n₁ + n₂)) = Fin.castAdd n₂ j from Fin.ext (Nat.zero_add _), Fin.append_left]
/-- the second's comes after all of the first's. -/
theorem append_snd {n₁ n₂ : ℕ} (A : Fin n₁ → sProp 𝕄) (B : Fin n₂ → sProp 𝕄) (j : Fin n₂) (h : n₁ + j.val < n₁ + n₂) :
    B j ⊢ Fin.append A B ⟨n₁ + j.val, h⟩ := by
  rw [show (⟨n₁ + j.val, h⟩ : Fin (n₁ + n₂)) = Fin.natAdd n₁ j from rfl, Fin.append_right]

theorem append_all {n₁ n₂ : ℕ} (A : Fin n₁ → sProp 𝕄) (B : Fin n₂ → sProp 𝕄) :
    bigSep Finset.univ (Fin.append A B) = iprop(bigSep Finset.univ A ∗ bigSep Finset.univ B) := by
  rw [BI.bigSep_univ_equiv finSumFinEquiv (fun t => Fin.append A B t), BI.bigSep_univ_sum]
  congr 1
  · exact congrArg _ (funext fun i => by simp)
  · exact congrArg _ (funext fun i => by simp)

end Idealize.ShloMosaic.SparseCore.GatherBatch
-- ==== Proof.IdRange.lean ====
/-
  The precondition, read word by word: every label and every sampled candidate is below the number of table rows.
-/
module

public import proofs.«01_k».proof.Proof.Gen.Pre_ids_in_range
public import Idealize.ShloMosaic.Lib.ReduceAll

@[expose] public section

noncomputable section

namespace Cert.IdRange

open Idealize.ShloMosaic Cert.Pre_ids_in_range Cert.Pre_ids_in_range.Gen

theorem andi_one {p q : BitVec 1} (h : IntOp.andi p q = 1#1) : p = 1#1 ∧ q = 1#1 := IntOp.andi_eq_one.1 h

theorem word_bound (v : BitVec 32) (h0 : IntOp.cmpi .sge v 0#32 = 1#1) (h1 : IntOp.cmpi .slt v 100000#32 = 1#1) : v.toNat < 100000 := by
  have one (p : Bool) : (BitVec.ofBool p = 1#1) ↔ p = true := by cases p <;> decide
  simp only [IntOp.cmpi, one, BitVec.sle_eq_decide, BitVec.slt_eq_decide,
    decide_eq_true_eq, BitVec.toInt_eq_toNat_cond, BitVec.toNat_ofNat, Nat.reducePow, Nat.reduceMod] at h0 h1
  omega

instance : Subsingleton S_.Idx := ⟨fun _ _ => funext fun a => a.elim0⟩

variable {F : FTy → Type} [FloatOps F]

/-- From the precondition all ones: the bounds. -/
theorem bounds (a0 : FVec F S4096x64 .f32) (a1 : IVec S4096x1 32) (a2 : FVec F S100000x64 .f32) (a3 : FVec F S100000 .f32) (a4 : IVec S4096 32)
    (a5 : FVec F S4096x1 .f32) (a6 : FVec F S4096 .f32) (h : Cert.Pre_ids_in_range.fn a0 a1 a2 a3 a4 a5 a6 = fun _ => 1#1) :
    (∀ i, (a1 i).toNat < 100000) ∧ ∀ i, (a4 i).toNat < 100000 := by
  have e := congrFun h (fun a => a.elim0)
  dsimp only [Cert.Pre_ids_in_range.fn] at e
  obtain ⟨e, e4⟩ := andi_one e
  obtain ⟨e, e3⟩ := andi_one e
  obtain ⟨e1, e2⟩ := andi_one e
  exact ⟨fun i => word_bound _ (Host.reduce_andi_all _ _ _ _ _ e1 i) (Host.reduce_andi_all _ _ _ _ _ e2 i),
    fun i => word_bound _ (Host.reduce_andi_all _ _ _ _ _ e3 i) (Host.reduce_andi_all _ _ _ _ _ e4 i)⟩

end Cert.IdRange

end
-- ==== Proof.KernelIdealBase.lean ====
/-
  The program as the launch theorem sees it: its SparseCore call, the resource algebra of the certificate, what the one
  call hands its tasks and takes back.

  A task is vector subcore `s` of SparseCore `c`, numbered `2 s + c`. It is handed row `2 s + c` of the two index
  arrays, a share of each table and its two 128-row chunks of each output, and brings back the same, each output chunk
  holding the table rows its indices name (`gat`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Regions
public import Idealize.ShloMosaic.Lib.Pipeline.RegionArraysS
public import Idealize.ShloMosaic.Lib.Tactic
public import Idealize.ShloMosaic.Lib.ValueIdxCore
public import proofs.«01_k».proof.Proof.GatherBatch
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program's SparseCore call -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the call's handshakes, the pipeline's rounds, the transfers' counters -/

abbrev UH : Type := URounds (GSem nD τ sig) ℕ
abbrev UP : Type := Rounds.URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The buffers of the call -/

abbrev wiLoc (d : Dev nD) : Loc nD τ sig := (SparseCore.T d).loc main_v7
abbrev biLoc (d : Dev nD) : Loc nD τ sig := (SparseCore.T d).loc main_v10
abbrev wtLoc (d : Dev nD) : Loc nD τ sig := (SparseCore.T d).loc main_v2
abbrev btLoc (d : Dev nD) : Loc nD τ sig := (SparseCore.T d).loc main_v4
abbrev owLoc (d : Dev nD) : Loc nD τ sig := (SparseCore.T d).loc main_v11_0
abbrev obLoc (d : Dev nD) : Loc nD τ sig := (SparseCore.T d).loc main_v11_1

/-- What the call's operands hold when it starts: the two index arrays, the two tables, the two outputs. -/
structure CallIn (F : FTy → Type) where
  wi : (d : Dev nD) → Buf (Elt F) (wiLoc d)
  bi : (d : Dev nD) → Buf (Elt F) (biLoc d)
  wt : (d : Dev nD) → Buf (Elt F) (wtLoc d)
  bt : (d : Dev nD) → Buf (Elt F) (btLoc d)
  ow : (d : Dev nD) → Buf (Elt F) (owLoc d)
  ob : (d : Dev nD) → Buf (Elt F) (obLoc d)

/-- Every index names a row of its table. -/
structure CallIn.Ok {F : FTy → Type} (A : CallIn F) : Prop where
  w : ∀ (d : Dev nD) (x : S32x2x128.Idx), BitVec.toNat (A.wi d x) < 50000
  b : ∀ (d : Dev nD) (x : S32x2x128.Idx), BitVec.toNat (A.bi d x) < 782

/-- Row `r` of the 8192 gathered rows, as the index arrays number it: task, chunk, place in the chunk. -/
def rowIx (r : Fin 8192) : S32x2x128.Idx := ix3 ⟨r.val / 256, by omega⟩ ⟨r.val / 128 % 2, by omega⟩ ⟨r.val % 128, by omega⟩

/-- Row `r` of the result is the row of the table that index `r` names. -/
def gat {α : Type} {n : Nat} (hn : 0 < n) (tab : (⟨2, ![n, 128]⟩ : Shape).Idx → α) (idx : S32x2x128.Idx → BitVec 32) : S8192x128.Idx → α :=
  fun x => tab (ix2 ⟨(idx (rowIx (x 0))).toNat % n, Nat.mod_lt _ hn⟩ (x 1))

def CallIn.gw {F : FTy → Type} (A : CallIn F) (d : Dev nD) : Buf (Elt F) (owLoc d) := gat (α := Elt F .f32) (n := 50000) (by decide) (A.wt d) (A.wi d)
def CallIn.gb {F : FTy → Type} (A : CallIn F) (d : Dev nD) : Buf (Elt F) (obLoc d) := gat (α := Elt F .f32) (n := 782) (by decide) (A.bt d) (A.bi d)

/-! ## What a task is handed -/

/-- The task's number. -/
def wid (c : Fin 2) (s : Fin 16) : Fin 32 := ⟨2 * s.val + c.val, by omega⟩
/-- The task's row of an index array. -/
def rowSet (w : Fin 32) : Finset S32x2x128.Idx := Finset.univ.filter fun x => (x 0).val = w.val
/-- A task's chunk `j` of an output: 128 rows. -/
def chunkSet (w : Fin 32) (j : Fin 2) : Finset S8192x128.Idx := Finset.univ.filter fun x => (x 0).val / 128 = 2 * w.val + j.val
/-- The task's share of a table. -/
abbrev sh (w : Fin 32) : PosShare TreeShare := pieceOf fullShare 32 (by decide) w

/-- A task's resources, the outputs at `ow` and `ob`. -/
def task (A : CallIn F) (d : Dev nD) (ow : Buf (Elt F) (owLoc d)) (ob : Buf (Elt F) (obLoc d)) (w : Fin 32) : sProp 𝕄 :=
  iprop((wiLoc d ↦[rowSet w]{fullShare} A.wi d) ∗ (biLoc d ↦[rowSet w]{fullShare} A.bi d)
    ∗ (wtLoc d ↦{sh w} A.wt d) ∗ (btLoc d ↦{sh w} A.bt d)
    ∗ (owLoc d ↦[chunkSet w 0]{fullShare} ow) ∗ (owLoc d ↦[chunkSet w 1]{fullShare} ow)
    ∗ (obLoc d ↦[chunkSet w 0]{fullShare} ob) ∗ (obLoc d ↦[chunkSet w 1]{fullShare} ob))

instance task_storable (A : CallIn F) (d : Dev nD) (ow : Buf (Elt F) (owLoc d)) (ob : Buf (Elt F) (obLoc d)) (w : Fin 32) :
    BI.Storable (upEmb : UEmb _ 𝕄) (task A d ow ob w) := by unfold task; infer_instance

/-- What the call's handshakes carry: to a SparseCore its sixteen tasks' resources, and back. -/
def P (A : CallIn F) : (K (F := F)).Pay (nD := nD) (Val := Elt F) (Name := ℕ) (U := UU) where
  st := fun q d c => match q with
    | 0 => bigSep Finset.univ fun s : Fin ((K (F := F)).nSub 0) => task A d (A.ow d) (A.ob d) (wid (Fin.cast nCore_zero c) (Fin.cast nSub_zero s))
  dn := fun q d c => match q with
    | 0 => bigSep Finset.univ fun s : Fin ((K (F := F)).nSub 0) => task A d (A.gw d) (A.gb d) (wid (Fin.cast nCore_zero c) (Fin.cast nSub_zero s))
  go := fun q d c s => match q with | 0 => task A d (A.ow d) (A.ob d) (wid (Fin.cast nCore_zero c) (Fin.cast nSub_zero s))
  td := fun q d c s => match q with | 0 => task A d (A.gw d) (A.gb d) (wid (Fin.cast nCore_zero c) (Fin.cast nSub_zero s))
  x := fun _ _ => iprop(emp)

instance P_storable (A : CallIn F) : (P A).IsStorable where
  st q d c := match q with
    | 0 => (inferInstance : BI.Storable (upEmb : UEmb _ 𝕄)
      (bigSep Finset.univ fun s : Fin ((K (F := F)).nSub 0) => task A d (A.ow d) (A.ob d) (wid (Fin.cast nCore_zero c) (Fin.cast nSub_zero s))))
  dn q d c := match q with
    | 0 => (inferInstance : BI.Storable (upEmb : UEmb _ 𝕄)
      (bigSep Finset.univ fun s : Fin ((K (F := F)).nSub 0) => task A d (A.gw d) (A.gb d) (wid (Fin.cast nCore_zero c) (Fin.cast nSub_zero s))))
  go q d c s := match q with | 0 => task_storable A d _ _ _
  td q d c s := match q with | 0 => task_storable A d _ _ _

/-- A SparseCore's resources are its tasks', to begin with and at the end. -/
theorem vecSplit (A : CallIn F) : (K (F := F)).VecSplit' (P A) 0 := by
  intro d c
  show (bigSep Finset.univ fun s : Fin ((K (F := F)).nSub 0) => task A d (A.ow d) (A.ob d) (wid (Fin.cast nCore_zero c) (Fin.cast nSub_zero s)))
    ⊢ |={Set.univ}=> iprop((bigSep Finset.univ fun s : Fin ((K (F := F)).nSub 0) => task A d (A.ow d) (A.ob d) (wid (Fin.cast nCore_zero c) (Fin.cast nSub_zero s)))
      ∗ ((bigSep Finset.univ fun s : Fin ((K (F := F)).nSub 0) => task A d (A.gw d) (A.gb d) (wid (Fin.cast nCore_zero c) (Fin.cast nSub_zero s)))
        -∗ (bigSep Finset.univ fun s : Fin ((K (F := F)).nSub 0) => task A d (A.gw d) (A.gb d) (wid (Fin.cast nCore_zero c) (Fin.cast nSub_zero s)))))
  iintro H; imodintro
  isplitl [H]; · iexact H
  iintro H; iexact H

/-! ## The whole arrays are the tasks' parts -/

theorem rowSet_disjoint : ∀ w ∈ (Finset.univ : Finset (Fin 32)), ∀ w' ∈ (Finset.univ : Finset (Fin 32)), w ≠ w' → Disjoint (rowSet w) (rowSet w') :=
  fun w _ w' _ h => Finset.disjoint_left.mpr fun x hx hx' =>
    h (Fin.ext ((Finset.mem_filter.mp hx).2.symm.trans (Finset.mem_filter.mp hx').2))
theorem rowSet_cover : (Finset.univ : Finset (Fin 32)).biUnion rowSet = Finset.univ :=
  Finset.eq_univ_iff_forall.mpr fun x => Finset.mem_biUnion.mpr ⟨x 0, Finset.mem_univ _, Finset.mem_filter.mpr ⟨Finset.mem_univ _, rfl⟩⟩
theorem chunkSet_disjoint : ∀ p ∈ (Finset.univ : Finset (Fin 32 × Fin 2)), ∀ p' ∈ (Finset.univ : Finset (Fin 32 × Fin 2)), p ≠ p' →
    Disjoint (chunkSet p.1 p.2) (chunkSet p'.1 p'.2) :=
  fun p _ p' _ h => Finset.disjoint_left.mpr fun x hx hx' => h (by
    have h1 := (Finset.mem_filter.mp hx).2
    have h2 := (Finset.mem_filter.mp hx').2
    have := p.2.isLt
    have := p'.2.isLt
    exact Prod.ext (Fin.ext (by omega)) (Fin.ext (by omega)))
theorem chunkSet_cover : (Finset.univ : Finset (Fin 32 × Fin 2)).biUnion (fun p => chunkSet p.1 p.2) = Finset.univ :=
  Finset.eq_univ_iff_forall.mpr fun x => by
    have hx : (x 0).val < 8192 := (x 0).isLt
    refine Finset.mem_biUnion.mpr ⟨(⟨(x 0).val / 256, by omega⟩, ⟨(x 0).val / 128 % 2, by omega⟩), Finset.mem_univ _, Finset.mem_filter.mpr ⟨Finset.mem_univ _, ?_⟩⟩
    show (x 0).val / 128 = 2 * ((x 0).val / 256) + (x 0).val / 128 % 2
    omega

theorem rows_whole {ℓ : Loc nD τ sig} (S : Fin 32 → Finset (Idx ℓ)) (hd : ∀ w ∈ (Finset.univ : Finset (Fin 32)), ∀ w' ∈ (Finset.univ : Finset (Fin 32)), w ≠ w' → Disjoint (S w) (S w'))
    (hc : (Finset.univ : Finset (Fin 32)).biUnion S = Finset.univ) (f : Buf (Elt F) ℓ) :
    (ℓ ↦{fullShare} f : sProp 𝕄) = bigSep Finset.univ fun w : Fin 32 => ℓ ↦[S w]{fullShare} f := by
  rw [← pointsTo_biUnion Finset.univ (ℓ := ℓ) S hd, hc]

theorem chunks_whole {ℓ : Loc nD τ sig} (S : Fin 32 × Fin 2 → Finset (Idx ℓ))
    (hd : ∀ p ∈ (Finset.univ : Finset (Fin 32 × Fin 2)), ∀ p' ∈ (Finset.univ : Finset (Fin 32 × Fin 2)), p ≠ p' → Disjoint (S p) (S p'))
    (hc : (Finset.univ : Finset (Fin 32 × Fin 2)).biUnion S = Finset.univ) (f : Buf (Elt F) ℓ) :
    (ℓ ↦{fullShare} f : sProp 𝕄)
      = bigSep Finset.univ fun w : Fin 32 => iprop((ℓ ↦[S (w, 0)]{fullShare} f) ∗ (ℓ ↦[S (w, 1)]{fullShare} f)) := by
  have h1 : (ℓ ↦{fullShare} f : sProp 𝕄) = bigSep Finset.univ fun p : Fin 32 × Fin 2 => ℓ ↦[S p]{fullShare} f := by
    rw [← pointsTo_biUnion Finset.univ (ℓ := ℓ) S hd, hc]
  rw [h1, bigSep_univ_prod]
  exact bigSep_congr fun w _ => bigSep_univ_two _

end Cert.KernelIdeal.Run

end
-- ==== Proof.KernelIdealTile.lean ====
/-
  The task of one vector subcore: it fetches its row of the two index arrays, gathers its two chunks of rows of each
  table, and writes the chunks out. Proved once, at a symbolic subcore: each output chunk ends holding the table rows
  its indices name.
-/
module

public import proofs.«01_k».proof.Proof.KernelIdealBase
public import Idealize.ShloMosaic.Lib.ValueLayout

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Tile

variable (A : CallIn F) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The number of the task at grid point `L`. -/
abbrev wL (L : grid0.Coords) : Fin 32 := wid (Fin.cast bound_zero (L 0)) (Fin.cast bound_one (L 1))

theorem wL_val (L : grid0.Coords) : (wL L).val = 2 * (L 1).val + (L 0).val := rfl

/-! ## The views the task addresses -/

abbrev iRow (b : Memref sig .scVector .hbm S32x2x128 .i32) (L : grid0.Coords) : Memref sig .scVector .hbm S2x128 .i32 :=
  (b.slice (Rect.unit (s := S32x2x128) (k0_off1 L) S1x2x128.size (k0_off1_inb L)) (fun _ => rfl)).squeeze S2x128 squeezes_S1x2x128_S2x128
abbrev lst (b : Memref sig .scVector .vmem S2x128 .i32) (o : Fin 2 → ℕ) (h : ∀ a, o a + S1x128.size a ≤ S2x128.size a) : Memref sig .scVector .vmem S128 .i32 :=
  (b.slice (Rect.unit (s := S2x128) o S1x128.size h) (fun _ => rfl)).squeeze S128 squeezes_S1x128_S128
abbrev blk (b : Memref sig .scVector .vmem S2x128x128 .f32) (o : Fin 3 → ℕ) (h : ∀ a, o a + S1x128x128.size a ≤ S2x128x128.size a) : Memref sig .scVector .vmem S128x128 .f32 :=
  (b.slice (Rect.unit (s := S2x128x128) o S1x128x128.size h) (fun _ => rfl)).squeeze S128x128 squeezes_S1x128x128_S128x128
abbrev wAll : Memref sig .scVector .hbm S50000x128 .f32 :=
  (Memref.whole main_v2_scv).slice (Rect.unit (s := S50000x128) ![0, 0] S50000x128.size inb_S50000x128_S50000x128_0_0) (fun _ => rfl)
abbrev bAll : Memref sig .scVector .hbm S782x128 .f32 :=
  (Memref.whole main_v4_scv).slice (Rect.unit (s := S782x128) ![0, 0] S782x128.size inb_S782x128_S782x128_0_0) (fun _ => rfl)
abbrev chunk (b : Memref sig .scVector .hbm S8192x128 .f32) (L : grid0.Coords) (w : BitVec 32) (h : ∀ a, k0_off2 L w a + S128x128.size a ≤ S8192x128.size a) :
    Memref sig .scVector .hbm S128x128 .f32 :=
  b.slice (Rect.unit (s := S8192x128) (k0_off2 L w) S128x128.size h) (fun _ => rfl)

abbrev thr (d : Dev nD) (L : grid0.Coords) : Thread nD τ := V d (cV L) (jV L)

theorem ownSems0_V :
    (ownSems0 (thr d L) : sProp 𝕄)
      = iprop(semVal (thr d L, SemLoc.dma cc0_scratch4.sem) 0 ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ semVal (thr d L, SemLoc.dma cc0_scoped4.sem) 0 ∗ semVal (thr d L, SemLoc.dma cc0_scoped5.sem) 0
        ∗ (bigSep ((((((((ownCells (thr d L)).erase (thr d L, SemLoc.dma cc0_scratch4.sem)).erase (thr d L, SemLoc.dma cc0_scoped0.sem)).erase
            (thr d L, SemLoc.dma cc0_scoped1.sem)).erase (thr d L, SemLoc.dma cc0_scoped2.sem)).erase (thr d L, SemLoc.dma cc0_scoped3.sem)).erase
            (thr d L, SemLoc.dma cc0_scoped4.sem)).erase (thr d L, SemLoc.dma cc0_scoped5.sem)) fun g => semVal g 0)) := by
  have hm : ∀ s : DmaSems sig S_, (SemLoc.dma s.sem : SemLoc sig).isScoped .scVector = true → (thr d L, SemLoc.dma s.sem) ∈ ownCells (thr d L) :=
    fun s hs => (mem_ownCells (g := (thr d L, SemLoc.dma s.sem))).mpr ⟨rfl, hs⟩
  have hne : ∀ s s' : DmaSems sig S_, (SemLoc.dma s.sem : SemLoc sig) ≠ SemLoc.dma s'.sem → ((thr d L, SemLoc.dma s.sem) : GSem nD τ sig) ≠ (thr d L, SemLoc.dma s'.sem) :=
    fun s s' h e => h (Prod.mk.inj e).2
  unfold SparseCore.Cfg.ownSems0
  rw [SparseCore.bigSep_erase' (hm cc0_scratch4 (by decide)),
    SparseCore.bigSep_erase' (Finset.mem_erase.mpr ⟨hne cc0_scoped0 cc0_scratch4 (by decide), hm cc0_scoped0 (by decide)⟩),
    SparseCore.bigSep_erase' (Finset.mem_erase.mpr ⟨hne cc0_scoped1 cc0_scoped0 (by decide), Finset.mem_erase.mpr ⟨hne cc0_scoped1 cc0_scratch4 (by decide), hm cc0_scoped1 (by decide)⟩⟩),
    SparseCore.bigSep_erase' (Finset.mem_erase.mpr ⟨hne cc0_scoped2 cc0_scoped1 (by decide), Finset.mem_erase.mpr ⟨hne cc0_scoped2 cc0_scoped0 (by decide), Finset.mem_erase.mpr ⟨hne cc0_scoped2 cc0_scratch4 (by decide), hm cc0_scoped2 (by decide)⟩⟩⟩),
    SparseCore.bigSep_erase' (Finset.mem_erase.mpr ⟨hne cc0_scoped3 cc0_scoped2 (by decide), Finset.mem_erase.mpr ⟨hne cc0_scoped3 cc0_scoped1 (by decide), Finset.mem_erase.mpr ⟨hne cc0_scoped3 cc0_scoped0 (by decide), Finset.mem_erase.mpr ⟨hne cc0_scoped3 cc0_scratch4 (by decide), hm cc0_scoped3 (by decide)⟩⟩⟩⟩),
    SparseCore.bigSep_erase' (Finset.mem_erase.mpr ⟨hne cc0_scoped4 cc0_scoped3 (by decide), Finset.mem_erase.mpr ⟨hne cc0_scoped4 cc0_scoped2 (by decide), Finset.mem_erase.mpr ⟨hne cc0_scoped4 cc0_scoped1 (by decide), Finset.mem_erase.mpr ⟨hne cc0_scoped4 cc0_scoped0 (by decide), Finset.mem_erase.mpr ⟨hne cc0_scoped4 cc0_scratch4 (by decide), hm cc0_scoped4 (by decide)⟩⟩⟩⟩⟩),
    SparseCore.bigSep_erase' (Finset.mem_erase.mpr ⟨hne cc0_scoped5 cc0_scoped4 (by decide), Finset.mem_erase.mpr ⟨hne cc0_scoped5 cc0_scoped3 (by decide), Finset.mem_erase.mpr ⟨hne cc0_scoped5 cc0_scoped2 (by decide), Finset.mem_erase.mpr ⟨hne cc0_scoped5 cc0_scoped1 (by decide), Finset.mem_erase.mpr ⟨hne cc0_scoped5 cc0_scoped0 (by decide), Finset.mem_erase.mpr ⟨hne cc0_scoped5 cc0_scratch4 (by decide), hm cc0_scoped5 (by decide)⟩⟩⟩⟩⟩⟩)]

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  have hne : ∀ b b' : Ref sig .scVector, b ≠ b' → (Proc.scVector (cV L) (jV L)).devRef b ≠ (Proc.scVector (cV L) (jV L)).devRef b' :=
    fun b b' h e => h (Proc.devRef_injective _ e)
  have hm : ∀ b : Ref sig .scVector, ((Proc.scVector (cV L) (jV L)).devRef b).owner = .proc (Proc.scVector (cV L) (jV L)) → (Proc.scVector (cV L) (jV L)).devRef b ∈ ownRefs (τ := τ) (.scVector (cV L) (jV L)) :=
    fun b hb => SparseCore.Cfg.mem_ownRefs_of_owner (p := Proc.scVector (cV L) (jV L)) (b := (Proc.scVector (cV L) (jV L)).devRef b) hb
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide), Finset.mem_erase.mpr ⟨hne cc0_scratch3 cc0_scratch0 (by decide), hm cc0_scratch3 rfl⟩⟩⟩)]

/-! ## Their elements -/

theorem set_iRow : (iRow (Memref.whole main_v7_scv) L).view.set = rowSet (wL L) ∧ (iRow (Memref.whole main_v10_scv) L).view.set = rowSet (wL L) := by
  have h : (Rect.unit (s := S32x2x128) (k0_off1 L) S1x2x128.size (k0_off1_inb L)).set = rowSet (wL L) := by
    ext x
    rw [Rect.mem_set_unit, k0_off1_eq]
    constructor
    · intro h
      have := h 0
      refine Finset.mem_filter.mpr ⟨Finset.mem_univ _, ?_⟩
      simp at this; have := wL_val L; omega
    · intro h
      have h := (Finset.mem_filter.mp h).2
      intro a
      match a with
      | 0 => simp; have := wL_val L; omega
      | 1 => exact ⟨Nat.zero_le _, (x 1).isLt⟩
      | 2 => exact ⟨Nat.zero_le _, (x 2).isLt⟩
  constructor <;> (simp only [Memref.squeeze, Memref.slice, View.set_reshape, Memref.view_whole]; rw [View.set_slice_whole]; exact h)

theorem set_chunk (w : BitVec 32) (j : Fin 2) (h) (hw : w = BitVec.ofNat 32 (128 * j.val)) :
    (chunk (Memref.whole main_v11_0_scv) L w h).view.set = chunkSet (wL L) j ∧ (chunk (Memref.whole main_v11_1_scv) L w h).view.set = chunkSet (wL L) j := by
  have h : (Rect.unit (s := S8192x128) (k0_off2 L w) S128x128.size h).set = chunkSet (wL L) j := by
    subst hw
    ext x
    rw [Rect.mem_set_unit, k0_off2_eq]
    constructor
    · intro h
      have := h 0
      refine Finset.mem_filter.mpr ⟨Finset.mem_univ _, ?_⟩
      simp at this; have := wL_val L; omega
    · intro h
      have h := (Finset.mem_filter.mp h).2
      intro a
      match a with
      | 0 => simp; have := wL_val L; omega
      | 1 => exact ⟨Nat.zero_le _, (x 1).isLt⟩
  constructor <;> (simp only [Memref.slice, Memref.view_whole]; rw [View.set_slice_whole]; exact h)

theorem set_wAll : wAll.view.set = Finset.univ := by
  simp only [Memref.slice, Memref.view_whole]; rw [View.set_slice_whole]
  ext x; rw [Rect.mem_set_unit]
  simp only [Finset.mem_univ, iff_true]; intro a
  match a with
  | 0 => exact ⟨Nat.zero_le _, Nat.lt_of_lt_of_eq (x 0).isLt (Nat.zero_add _).symm⟩
  | 1 => exact ⟨Nat.zero_le _, Nat.lt_of_lt_of_eq (x 1).isLt (Nat.zero_add _).symm⟩
theorem set_bAll : bAll.view.set = Finset.univ := by
  simp only [Memref.slice, Memref.view_whole]; rw [View.set_slice_whole]
  ext x; rw [Rect.mem_set_unit]
  simp only [Finset.mem_univ, iff_true]; intro a
  match a with
  | 0 => exact ⟨Nat.zero_le _, Nat.lt_of_lt_of_eq (x 0).isLt (Nat.zero_add _).symm⟩
  | 1 => exact ⟨Nat.zero_le _, Nat.lt_of_lt_of_eq (x 1).isLt (Nat.zero_add _).symm⟩

theorem blkRect_cover (h0 h1) : Disjoint (Rect.unit (s := S2x128x128) ![0, 0, 0] S1x128x128.size h0).set (Rect.unit (s := S2x128x128) ![1, 0, 0] S1x128x128.size h1).set
    ∧ (Rect.unit (s := S2x128x128) ![0, 0, 0] S1x128x128.size h0).set ∪ (Rect.unit (s := S2x128x128) ![1, 0, 0] S1x128x128.size h1).set = Finset.univ := by
  refine ⟨Rect.unit_disjoint 0 (.inl (by simp)), Finset.eq_univ_iff_forall.mpr fun x => ?_⟩
  have h0 : (x 0).val < 2 := (x 0).isLt
  have h1 : (x 1).val < 128 := (x 1).isLt
  have h2 : (x 2).val < 128 := (x 2).isLt
  rcases (by omega : (x 0).val = 0 ∨ (x 0).val = 1) with e | e
  · refine Finset.mem_union_left _ (Rect.mem_set_unit.mpr fun a => ?_)
    match a with
    | 0 => exact ⟨Nat.zero_le _, by show (x 0).val < 0 + 1; omega⟩
    | 1 => exact ⟨Nat.zero_le _, by show (x 1).val < 0 + 128; omega⟩
    | 2 => exact ⟨Nat.zero_le _, by show (x 2).val < 0 + 128; omega⟩
  · refine Finset.mem_union_right _ (Rect.mem_set_unit.mpr fun a => ?_)
    match a with
    | 0 => exact ⟨by show 1 ≤ (x 0).val; omega, by show (x 0).val < 1 + 1; omega⟩
    | 1 => exact ⟨Nat.zero_le _, by show (x 1).val < 0 + 128; omega⟩
    | 2 => exact ⟨Nat.zero_le _, by show (x 2).val < 0 + 128; omega⟩

theorem lstRect_cover (h0 h1) : Disjoint (Rect.unit (s := S2x128) ![0, 0] S1x128.size h0).set (Rect.unit (s := S2x128) ![1, 0] S1x128.size h1).set
    ∧ (Rect.unit (s := S2x128) ![0, 0] S1x128.size h0).set ∪ (Rect.unit (s := S2x128) ![1, 0] S1x128.size h1).set = Finset.univ := by
  refine ⟨Rect.unit_disjoint 0 (.inl (by simp)), Finset.eq_univ_iff_forall.mpr fun x => ?_⟩
  have h0 : (x 0).val < 2 := (x 0).isLt
  have h1 : (x 1).val < 128 := (x 1).isLt
  rcases (by omega : (x 0).val = 0 ∨ (x 0).val = 1) with e | e
  · refine Finset.mem_union_left _ (Rect.mem_set_unit.mpr fun a => ?_)
    match a with
    | 0 => exact ⟨Nat.zero_le _, by show (x 0).val < 0 + 1; omega⟩
    | 1 => exact ⟨Nat.zero_le _, by show (x 1).val < 0 + 128; omega⟩
  · refine Finset.mem_union_right _ (Rect.mem_set_unit.mpr fun a => ?_)
    match a with
    | 0 => exact ⟨by show 1 ≤ (x 0).val; omega, by show (x 0).val < 1 + 1; omega⟩
    | 1 => exact ⟨Nat.zero_le _, by show (x 1).val < 0 + 128; omega⟩

abbrev lW (o : Fin 2 → ℕ) (h) := lst (Memref.whole cc0_scratch0) o h
abbrev lB (o : Fin 2 → ℕ) (h) := lst (Memref.whole cc0_scratch1) o h
abbrev dW (o : Fin 3 → ℕ) (h) := blk (Memref.whole cc0_scratch2) o h
abbrev dB (o : Fin 3 → ℕ) (h) := blk (Memref.whole cc0_scratch3) o h
abbrev hb0 := inb_S2x128x128_S1x128x128_0_0_0
abbrev hb1 := inb_S2x128x128_S1x128x128_1_0_0
abbrev hl0 := inb_S2x128_S1x128_0_0
abbrev hl1 := inb_S2x128_S1x128_1_0

theorem set_dW (o h) : (dW o h).view.set = (Rect.unit (s := S2x128x128) o S1x128x128.size h).set := by
  simp only [Memref.squeeze, Memref.slice, View.set_reshape, Memref.view_whole]; rw [View.set_slice_whole]
theorem set_dB (o h) : (dB o h).view.set = (Rect.unit (s := S2x128x128) o S1x128x128.size h).set := by
  simp only [Memref.squeeze, Memref.slice, View.set_reshape, Memref.view_whole]; rw [View.set_slice_whole]
theorem set_lW (o h) : (lW o h).view.set = (Rect.unit (s := S2x128) o S1x128.size h).set := by
  simp only [Memref.squeeze, Memref.slice, View.set_reshape, Memref.view_whole]; rw [View.set_slice_whole]
theorem set_lB (o h) : (lB o h).view.set = (Rect.unit (s := S2x128) o S1x128.size h).set := by
  simp only [Memref.squeeze, Memref.slice, View.set_reshape, Memref.view_whole]; rw [View.set_slice_whole]

/-- A scratch buffer is its two blocks, a fetched list its two rows. -/
theorem pts_dW (f : Buf (Elt F) ((thr d L).loc cc0_scratch2)) : ((thr d L).loc cc0_scratch2 ↦{fullShare} f : sProp 𝕄)
    ⊣⊢ iprop(((dW ![0, 0, 0] hb0).view.loc (thr d L) ↦[(dW ![0, 0, 0] hb0).view.set]{fullShare} f) ∗ ((dW ![1, 0, 0] hb1).view.loc (thr d L) ↦[(dW ![1, 0, 0] hb1).view.set]{fullShare} f)) := by
  have := pointsTo_union (nD := nD) (τ := τ) (sig := sig) (Ix := HIx 1) (Val := Elt F) (Name := ℕ) (U := UU) (Lvl := ℕ) (ℓ := (thr d L).loc cc0_scratch2) (q := fullShare) (f := f) (blkRect_cover hb0 hb1).1
  rw [(blkRect_cover hb0 hb1).2] at this
  rw [set_dW, set_dW]; exact this
theorem pts_dB (f : Buf (Elt F) ((thr d L).loc cc0_scratch3)) : ((thr d L).loc cc0_scratch3 ↦{fullShare} f : sProp 𝕄)
    ⊣⊢ iprop(((dB ![0, 0, 0] hb0).view.loc (thr d L) ↦[(dB ![0, 0, 0] hb0).view.set]{fullShare} f) ∗ ((dB ![1, 0, 0] hb1).view.loc (thr d L) ↦[(dB ![1, 0, 0] hb1).view.set]{fullShare} f)) := by
  have := pointsTo_union (nD := nD) (τ := τ) (sig := sig) (Ix := HIx 1) (Val := Elt F) (Name := ℕ) (U := UU) (Lvl := ℕ) (ℓ := (thr d L).loc cc0_scratch3) (q := fullShare) (f := f) (blkRect_cover hb0 hb1).1
  rw [(blkRect_cover hb0 hb1).2] at this
  rw [set_dB, set_dB]; exact this
theorem pts_lW (f : Buf (Elt F) ((thr d L).loc cc0_scratch0)) : ((thr d L).loc cc0_scratch0 ↦{fullShare} f : sProp 𝕄)
    ⊣⊢ iprop(((lW ![0, 0] hl0).view.loc (thr d L) ↦[(lW ![0, 0] hl0).view.set]{fullShare} f) ∗ ((lW ![1, 0] hl1).view.loc (thr d L) ↦[(lW ![1, 0] hl1).view.set]{fullShare} f)) := by
  have := pointsTo_union (nD := nD) (τ := τ) (sig := sig) (Ix := HIx 1) (Val := Elt F) (Name := ℕ) (U := UU) (Lvl := ℕ) (ℓ := (thr d L).loc cc0_scratch0) (q := fullShare) (f := f) (lstRect_cover hl0 hl1).1
  rw [(lstRect_cover hl0 hl1).2] at this
  rw [set_lW, set_lW]; exact this
theorem pts_lB (f : Buf (Elt F) ((thr d L).loc cc0_scratch1)) : ((thr d L).loc cc0_scratch1 ↦{fullShare} f : sProp 𝕄)
    ⊣⊢ iprop(((lB ![0, 0] hl0).view.loc (thr d L) ↦[(lB ![0, 0] hl0).view.set]{fullShare} f) ∗ ((lB ![1, 0] hl1).view.loc (thr d L) ↦[(lB ![1, 0] hl1).view.set]{fullShare} f)) := by
  have := pointsTo_union (nD := nD) (τ := τ) (sig := sig) (Ix := HIx 1) (Val := Elt F) (Name := ℕ) (U := UU) (Lvl := ℕ) (ℓ := (thr d L).loc cc0_scratch1) (q := fullShare) (f := f) (lstRect_cover hl0 hl1).1
  rw [(lstRect_cover hl0 hl1).2] at this
  rw [set_lB, set_lB]; exact this

/-! ## What the scratch holds -/

/-- The task's row of an index array; -/
def lrow (idx : S32x2x128.Idx → BitVec 32) (w : Fin 32) : S2x128.Idx → BitVec 32 := fun x => idx (ix3 w (x 0) (x 1))
/-- the rows of a table its indices name. -/
def grow {α : Type} {n : Nat} (hn : 0 < n) (tab : (⟨2, ![n, 128]⟩ : Shape).Idx → α) (idx : S32x2x128.Idx → BitVec 32) (w : Fin 32) : S2x128x128.Idx → α :=
  fun x => tab (ix2 ⟨(idx (ix3 w (x 0) (x 1))).toNat % n, Nat.mod_lt _ hn⟩ (x 2))

theorem iRow_emb (y : S2x128.Idx) :
    (Rect.unit (s := S32x2x128) (k0_off1 L) S1x2x128.size (k0_off1_inb L)).emb (Shape.reshapeEquiv (squeezes_S1x2x128_S2x128.numel_eq) y) = ix3 (wL L) (y 0) (y 1) := by
  have e : (Shape.reshapeEquiv (squeezes_S1x2x128_S2x128.numel_eq) y : S1x2x128.Idx) = ix3 (⟨0, Nat.one_pos⟩ : Fin 1) (y 0) (y 1) := by
    conv_lhs => rw [eq_ix2 y]
    exact reshapeEquiv_ix2_1ab _ _ _
  have e0 := congrFun (k0_off1_eq L) 0
  have e1 := congrFun (k0_off1_eq L) 1
  have e2 := congrFun (k0_off1_eq L) 2
  refine (congrArg _ e).trans (funext fun a => Fin.ext ?_)
  match a with
  | 0 => show k0_off1 L 0 + 1 * 0 = (wL L).val; rw [e0, wL_val]; rfl
  | 1 => show k0_off1 L 1 + 1 * (y 0).val = (y 0).val; rw [e1, Nat.one_mul]; exact Nat.zero_add _
  | 2 => show k0_off1 L 2 + 1 * (y 1).val = (y 1).val; rw [e2, Nat.one_mul]; exact Nat.zero_add _
theorem blk_emb (j : Fin 2) (o h) (ho : o = ![j.val, 0, 0]) (y : S128x128.Idx) :
    (Rect.unit (s := S2x128x128) o S1x128x128.size h).emb (Shape.reshapeEquiv (squeezes_S1x128x128_S128x128.numel_eq) y) = ix3 j (y 0) (y 1) := by
  subst ho
  have e : (Shape.reshapeEquiv (squeezes_S1x128x128_S128x128.numel_eq) y : S1x128x128.Idx) = ix3 (⟨0, Nat.one_pos⟩ : Fin 1) (y 0) (y 1) := by
    conv_lhs => rw [eq_ix2 y]
    exact reshapeEquiv_ix2_1ab _ _ _
  refine (congrArg _ e).trans (funext fun a => Fin.ext ?_)
  match a with
  | 0 => show j.val + 1 * 0 = j.val; omega
  | 1 => show 0 + 1 * (y 0).val = (y 0).val; omega
  | 2 => show 0 + 1 * (y 1).val = (y 1).val; omega
theorem lst_emb (j : Fin 2) (o h) (ho : o = ![j.val, 0]) (y : S128.Idx) :
    (Rect.unit (s := S2x128) o S1x128.size h).emb (Shape.reshapeEquiv (squeezes_S1x128_S128.numel_eq) y) = ix2 j (y 0) := by
  subst ho
  have e : (Shape.reshapeEquiv (squeezes_S1x128_S128.numel_eq) y : S1x128.Idx) = ix2 (⟨0, Nat.one_pos⟩ : Fin 1) (y 0) :=
    Shape.reshapeEquiv_eq_of_rowMajor _ (((Shape.rowMajor_val_two _).trans (show 0 * 128 + (y 0).val = (y 0).val by omega)).trans (Shape.rowMajor_val_one y).symm)
  refine (congrArg _ e).trans (funext fun a => Fin.ext ?_)
  match a with
  | 0 => show j.val + 1 * 0 = j.val; omega
  | 1 => show 0 + 1 * (y 0).val = (y 0).val; omega
theorem chunk_emb (j : Fin 2) (w : BitVec 32) (h) (hw : w = BitVec.ofNat 32 (128 * j.val)) (y : S128x128.Idx) :
    ((Rect.unit (s := S8192x128) (k0_off2 L w) S128x128.size h).emb y 0).val = 256 * (wL L).val + 128 * j.val + (y 0).val
      ∧ ((Rect.unit (s := S8192x128) (k0_off2 L w) S128x128.size h).emb y 1).val = (y 1).val := by
  subst hw
  have e0 := congrFun (k0_off2_eq L j) 0
  have e1 := congrFun (k0_off2_eq L j) 1
  constructor
  · show k0_off2 L (BitVec.ofNat 32 (128 * j.val)) 0 + 1 * (y 0).val = _
    rw [e0, wL_val]
    show 512 * (L 1).val + 256 * (L 0).val + 128 * j.val + 1 * (y 0).val = _
    omega
  · show k0_off2 L (BitVec.ofNat 32 (128 * j.val)) 1 + 1 * (y 1).val = _
    rw [e1, Nat.one_mul]; exact Nat.zero_add _

/-- A row of an index array, read through the task's view, is `lrow`. -/
theorem read_iRow (f : S32x2x128.Idx → BitVec 32) :
    (iRow (Memref.whole main_v7_scv) L).view.read (Elt F) f = lrow f (wL L) ∧ (iRow (Memref.whole main_v10_scv) L).view.read (Elt F) f = lrow f (wL L) := by
  constructor <;> (funext y; exact (View.read_apply _ _).trans ((cast_eq _ _).trans (congrArg f (iRow_emb L y))))

theorem read_lst (j : Fin 2) (o h) (ho : o = ![j.val, 0]) (f : S2x128.Idx → BitVec 32) (y : S128.Idx) :
    (lW o h).view.read (Elt F) f y = f (ix2 j (y 0)) ∧ (lB o h).view.read (Elt F) f y = f (ix2 j (y 0)) := by
  constructor <;> exact (View.read_apply _ _).trans ((cast_eq _ _).trans (congrArg f (lst_emb j o h ho y)))

/-- The row a list names, as a gather reads it off the list: its `k`-th word. -/
theorem gatherRow_val {n : ℕ} (tab : (⟨2, ![n, 128]⟩ : Shape).Idx → Elt F .f32) (hg : (⟨2, ![n, 128]⟩ : Shape).Gathers 0 S128x128) (l : S128.Idx → BitVec 32)
    (hn : S128.numel = S128x128.size hg.axis') (hin : ∀ x, (l x).toNat < (⟨2, ![n, 128]⟩ : Shape).size hg.axis) (h : 0 < n) (y : S128x128.Idx) :
    SparseCore.gatherPayload hg tab (SparseCore.rows (F := F) l hn hin) y = tab (ix2 ⟨(l (ix1 (y 0))).toNat % n, Nat.mod_lt _ h⟩ (y 1)) := by
  unfold SparseCore.gatherPayload
  congr 1
  have e : S128.rowMajor.symm ((y hg.axis').cast hn.symm) = ix1 (y 0) := by
    exact (Equiv.symm_apply_eq _).mpr (Fin.ext (Shape.rowMajor_val_one (d := ![128]) (ix1 (y 0))).symm)
  funext a
  refine Fin.ext ?_
  match a with
  | 0 =>
    have h0 := congrArg Fin.val (hg.idx_axis (SparseCore.rows (F := F) l hn hin) y)
    refine h0.trans ?_
    show (l (S128.rowMajor.symm ((y hg.axis').cast hn.symm))).toNat = _
    rw [e]
    exact (Nat.mod_eq_of_lt (hin (ix1 (y 0)))).symm
  | 1 => exact hg.idx_of_ne _ y 1 Nat.one_ne_zero

theorem wAll_read (f : S50000x128.Idx → Elt F .f32) : wAll.view.read (Elt F) f = f := by
  funext y
  refine (View.read_apply _ _).trans ((cast_eq _ _).trans (congrArg f (funext fun a => Fin.ext ?_)))
  match a with
  | 0 => show 0 + 1 * (y 0).val = (y 0).val; omega
  | 1 => show 0 + 1 * (y 1).val = (y 1).val; omega
theorem bAll_read (f : S782x128.Idx → Elt F .f32) : bAll.view.read (Elt F) f = f := by
  funext y
  refine (View.read_apply _ _).trans ((cast_eq _ _).trans (congrArg f (funext fun a => Fin.ext ?_)))
  match a with
  | 0 => show 0 + 1 * (y 0).val = (y 0).val; omega
  | 1 => show 0 + 1 * (y 1).val = (y 1).val; omega

/-- A block of the scratch, gathered into by its row of the fetched list, holds the rows that row names. -/
theorem gathered_w (j : Fin 2) (o h) (ho : o = ![j.val, 0, 0]) (o' h') (ho' : o' = ![j.val, 0])
    (wt : S50000x128.Idx → Elt F .f32) (wi : S32x2x128.Idx → BitVec 32) (w : Fin 32) (fd : S2x128x128.Idx → Elt F .f32) (hn)
    (hin : ∀ x : S128.Idx, BitVec.toNat (((lW o' h').view.read (Elt F) (lrow wi w)) x) < S50000x128.size gathers_S50000x128_S128x128.axis) :
    ∀ x ∈ (dW o h).view.set, (dW o h).view.write (Elt F) fd (SparseCore.gatherPayload gathers_S50000x128_S128x128 (wAll.view.read (Elt F) wt)
      (SparseCore.rows (F := F) ((lW o' h').view.read (Elt F) (lrow wi w)) hn hin)) Finset.univ x = grow (n := 50000) (by decide) wt wi w x := by
  intro x hx
  obtain ⟨y, -, rfl⟩ := Finset.mem_map.mp hx
  refine (View.write_emb_of_mem _ _ (Finset.mem_univ y)).trans ((cast_eq _ _).trans ?_)
  rw [wAll_read]
  refine (gatherRow_val wt gathers_S50000x128_S128x128 _ hn hin (by decide) y).trans ?_
  have e : (dW o h).view.emb y = ix3 j (y 0) (y 1) := blk_emb j o h ho y
  have e' := (read_lst (F := F) j o' h' ho' (lrow wi w) (ix1 (y 0))).1
  rw [e]
  simp only [e']
  rfl
theorem gathered_b (j : Fin 2) (o h) (ho : o = ![j.val, 0, 0]) (o' h') (ho' : o' = ![j.val, 0])
    (bt : S782x128.Idx → Elt F .f32) (bi : S32x2x128.Idx → BitVec 32) (w : Fin 32) (fd : S2x128x128.Idx → Elt F .f32) (hn)
    (hin : ∀ x : S128.Idx, BitVec.toNat (((lB o' h').view.read (Elt F) (lrow bi w)) x) < S782x128.size gathers_S782x128_S128x128.axis) :
    ∀ x ∈ (dB o h).view.set, (dB o h).view.write (Elt F) fd (SparseCore.gatherPayload gathers_S782x128_S128x128 (bAll.view.read (Elt F) bt)
      (SparseCore.rows (F := F) ((lB o' h').view.read (Elt F) (lrow bi w)) hn hin)) Finset.univ x = grow (n := 782) (by decide) bt bi w x := by
  intro x hx
  obtain ⟨y, -, rfl⟩ := Finset.mem_map.mp hx
  refine (View.write_emb_of_mem _ _ (Finset.mem_univ y)).trans ((cast_eq _ _).trans ?_)
  rw [bAll_read]
  refine (gatherRow_val bt gathers_S782x128_S128x128 _ hn hin (by decide) y).trans ?_
  have e : (dB o h).view.emb y = ix3 j (y 0) (y 1) := blk_emb j o h ho y
  have e' := (read_lst (F := F) j o' h' ho' (lrow bi w) (ix1 (y 0))).2
  rw [e]
  simp only [e']
  rfl

/-- A chunk of an output, a block of gathered rows copied in, holds the gathered rows of its place. -/
theorem chunk_eq {n : ℕ} (hn : 0 < n) (tab : (⟨2, ![n, 128]⟩ : Shape).Idx → Elt F .f32) (idx : S32x2x128.Idx → BitVec 32) (j : Fin 2) (w : BitVec 32) (h)
    (hw : w = BitVec.ofNat 32 (128 * j.val)) (y : S128x128.Idx) :
    grow hn tab idx (wL L) (ix3 j (y 0) (y 1)) = gat hn tab idx ((Rect.unit (s := S8192x128) (k0_off2 L w) S128x128.size h).emb y) := by
  obtain ⟨e0, e1⟩ := chunk_emb L j w h hw y
  have hy : (y 0).val < 128 := (y 0).isLt
  unfold grow gat
  have er : ix3 (wL L) j (y 0) = rowIx ((Rect.unit (s := S8192x128) (k0_off2 L w) S128x128.size h).emb y 0) := by
    funext a
    refine Fin.ext ?_
    match a with
    | 0 => show (wL L).val = _ / 256; rw [e0]; omega
    | 1 => show j.val = _ / 128 % 2; rw [e0]; omega
    | 2 => show (y 0).val = _ % 128; rw [e0]; omega
  congr 1
  funext a
  refine Fin.ext ?_
  match a with
  | 0 => exact congrArg (fun i => (idx i).toNat % n) er
  | 1 => exact e1.symm

theorem copied_w (j : Fin 2) (o h) (ho : o = ![j.val, 0, 0]) (w : BitVec 32) (h') (hw : w = BitVec.ofNat 32 (128 * j.val))
    (A : CallIn F) (d : Dev nD) (f : Buf (Elt F) (owLoc d)) :
    ∀ x ∈ (chunk (Memref.whole main_v11_0_scv) L w h').view.set, (chunk (Memref.whole main_v11_0_scv) L w h').view.write (Elt F) f
      ((dW o h).view.read (Elt F) (grow (α := Elt F .f32) (n := 50000) (by decide) (A.wt d) (A.wi d) (wL L))) Finset.univ x = A.gw d x := by
  intro x hx
  obtain ⟨y, -, rfl⟩ := Finset.mem_map.mp hx
  refine (View.write_emb_of_mem _ _ (Finset.mem_univ y)).trans ((cast_eq _ _).trans ?_)
  refine (View.read_apply _ _).trans ((cast_eq _ _).trans ?_)
  have e : (dW o h).view.emb y = ix3 j (y 0) (y 1) := blk_emb j o h ho y
  rw [e]
  exact chunk_eq L _ _ _ j w h' hw y
theorem copied_b (j : Fin 2) (o h) (ho : o = ![j.val, 0, 0]) (w : BitVec 32) (h') (hw : w = BitVec.ofNat 32 (128 * j.val))
    (A : CallIn F) (d : Dev nD) (f : Buf (Elt F) (obLoc d)) :
    ∀ x ∈ (chunk (Memref.whole main_v11_1_scv) L w h').view.set, (chunk (Memref.whole main_v11_1_scv) L w h').view.write (Elt F) f
      ((dB o h).view.read (Elt F) (grow (α := Elt F .f32) (n := 782) (by decide) (A.bt d) (A.bi d) (wL L))) Finset.univ x = A.gb d x := by
  intro x hx
  obtain ⟨y, -, rfl⟩ := Finset.mem_map.mp hx
  refine (View.write_emb_of_mem _ _ (Finset.mem_univ y)).trans ((cast_eq _ _).trans ?_)
  refine (View.read_apply _ _).trans ((cast_eq _ _).trans ?_)
  have e : (dB o h).view.emb y = ix3 j (y 0) (y 1) := blk_emb j o h ho y
  rw [e]
  exact chunk_eq L _ _ _ j w h' hw y

end Tile

end Cert.KernelIdeal.Run

end
-- ==== Proof.KernelIdealBody.lean ====
/-
  The run of one task: from its resources as the call hands them to the same with the output chunks gathered.
-/
module

public import proofs.«01_k».proof.Proof.KernelIdealTile

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Body

variable (A : CallIn F) (d : Dev nD) (L : grid0.Coords)

theorem fetched_w (f0 : Buf (Elt F) ((thr d L).loc cc0_scratch0)) (wi : S32x2x128.Idx → BitVec 32) (pay : S2x128.Idx → Elt F .i32)
    (h : pay = (iRow (Memref.whole main_v7_scv) L).view.read (Elt F) wi) :
    View.write (Elt F) (Memref.whole cc0_scratch0).view f0 pay Finset.univ = lrow wi (wL L) := by
  subst h; rw [View.write_whole_univ]; exact (read_iRow L wi).1
theorem fetched_b (f0 : Buf (Elt F) ((thr d L).loc cc0_scratch1)) (wi : S32x2x128.Idx → BitVec 32) (pay : S2x128.Idx → Elt F .i32)
    (h : pay = (iRow (Memref.whole main_v10_scv) L).view.read (Elt F) wi) :
    View.write (Elt F) (Memref.whole cc0_scratch1).view f0 pay Finset.univ = lrow wi (wL L) := by
  subst h; rw [View.write_whole_univ]; exact (read_iRow L wi).2

theorem list_w (hA : A.Ok) (j : Fin 2) (o h) (ho : o = ![j.val, 0]) :
    ∀ x : S128.Idx, BitVec.toNat ((lW o h).view.read (Elt F) (lrow (A.wi d) (wL L)) x) < S50000x128.size gathers_S50000x128_S128x128.axis := by
  intro x; rw [(read_lst (F := F) j o h ho _ x).1]; exact hA.w d _
theorem list_b (hA : A.Ok) (j : Fin 2) (o h) (ho : o = ![j.val, 0]) :
    ∀ x : S128.Idx, BitVec.toNat ((lB o h).view.read (Elt F) (lrow (A.bi d) (wL L)) x) < S782x128.size gathers_S782x128_S128x128.axis := by
  intro x; rw [(read_lst (F := F) j o h ho _ x).2]; exact hA.b d _

/-- What a row of a chunk's two gathers brings back. -/
def backW (hA : A.Ok) (f2 : Buf (Elt F) ((thr d L).loc cc0_scratch2)) (j : Fin 2) (o : Fin 3 → ℕ) (h : ∀ a, o a + S1x128x128.size a ≤ S2x128x128.size a) (o' : Fin 2 → ℕ) (h' : ∀ a, o' a + S1x128.size a ≤ S2x128.size a) (ho' : o' = ![j.val, 0]) : Fin 128 → sProp 𝕄 :=
  SparseCore.GatherBatch.rowBack (Ix := HIx 1) (Name := ℕ) (U := UU) (Lvl := ℕ) (F := F) (thr d L) wAll (dW o h) gathers_S50000x128_S128x128 (lW o' h') rfl (sh (wL L)) fullShare (A.wt d) f2 (lrow (A.wi d) (wL L)) (by decide)
    (SparseCore.rows ((lW o' h').view.read (Elt F) (lrow (A.wi d) (wL L))) rfl (list_w A d L hA j o' h' ho'))
def backB (hA : A.Ok) (f3 : Buf (Elt F) ((thr d L).loc cc0_scratch3)) (j : Fin 2) (o : Fin 3 → ℕ) (h : ∀ a, o a + S1x128x128.size a ≤ S2x128x128.size a) (o' : Fin 2 → ℕ) (h' : ∀ a, o' a + S1x128.size a ≤ S2x128.size a) (ho' : o' = ![j.val, 0]) : Fin 128 → sProp 𝕄 :=
  SparseCore.GatherBatch.rowBack (Ix := HIx 1) (Name := ℕ) (U := UU) (Lvl := ℕ) (F := F) (thr d L) bAll (dB o h) gathers_S782x128_S128x128 (lB o' h') rfl (sh (wL L)) fullShare (A.bt d) f3 (lrow (A.bi d) (wL L)) (by decide)
    (SparseCore.rows ((lB o' h').view.read (Elt F) (lrow (A.bi d) (wL L))) rfl (list_b A d L hA j o' h' ho'))

theorem backW_storable (hA : A.Ok) (f2 : Buf (Elt F) ((thr d L).loc cc0_scratch2)) (j : Fin 2) (o h o' h') (ho' : o' = ![j.val, 0]) (r) :
    BI.Storable (upEmb : UEmb _ 𝕄) (backW A d L hA f2 j o h o' h' ho' r) := SparseCore.GatherBatch.rowBack_storable _ _ _ _ _ _ _ _ _ _ _ _ _ _
theorem backB_storable (hA : A.Ok) (f3 : Buf (Elt F) ((thr d L).loc cc0_scratch3)) (j : Fin 2) (o h o' h') (ho' : o' = ![j.val, 0]) (r) :
    BI.Storable (upEmb : UEmb _ 𝕄) (backB A d L hA f3 j o h o' h' ho' r) := SparseCore.GatherBatch.rowBack_storable _ _ _ _ _ _ _ _ _ _ _ _ _ _

theorem backW_join (hA : A.Ok) (f2 : Buf (Elt F) ((thr d L).loc cc0_scratch2)) (j : Fin 2) (o h) (ho : o = ![j.val, 0, 0]) (o' h') (ho' : o' = ![j.val, 0]) :
    (bigSep Finset.univ (backW A d L hA f2 j o h o' h' ho') : sProp 𝕄)
      ⊢ iprop(((dW o h).view.loc (thr d L) ↦[(dW o h).view.set]{fullShare} grow (α := Elt F .f32) (n := 50000) (by decide) (A.wt d) (A.wi d) (wL L))
        ∗ ((lW o' h').view.loc (thr d L) ↦[(lW o' h').view.set]{fullShare} lrow (A.wi d) (wL L)) ∗ (wAll.view.loc (thr d L) ↦[wAll.view.set]{sh (wL L)} A.wt d)) := by
  refine (SparseCore.GatherBatch.rowsBack_join (thr d L) wAll (dW o h) gathers_S50000x128_S128x128 (lW o' h') rfl (sh (wL L)) fullShare (A.wt d) f2 (lrow (A.wi d) (wL L)) (by decide) _).trans ?_
  rw [pointsTo_congr (gathered_w (F := F) j o h ho o' h' ho' (A.wt d) (A.wi d) (wL L) f2 rfl (list_w A d L hA j o' h' ho'))]
theorem backB_join (hA : A.Ok) (f3 : Buf (Elt F) ((thr d L).loc cc0_scratch3)) (j : Fin 2) (o h) (ho : o = ![j.val, 0, 0]) (o' h') (ho' : o' = ![j.val, 0]) :
    (bigSep Finset.univ (backB A d L hA f3 j o h o' h' ho') : sProp 𝕄)
      ⊢ iprop(((dB o h).view.loc (thr d L) ↦[(dB o h).view.set]{fullShare} grow (α := Elt F .f32) (n := 782) (by decide) (A.bt d) (A.bi d) (wL L))
        ∗ ((lB o' h').view.loc (thr d L) ↦[(lB o' h').view.set]{fullShare} lrow (A.bi d) (wL L)) ∗ (bAll.view.loc (thr d L) ↦[bAll.view.set]{sh (wL L)} A.bt d)) := by
  refine (SparseCore.GatherBatch.rowsBack_join (thr d L) bAll (dB o h) gathers_S782x128_S128x128 (lB o' h') rfl (sh (wL L)) fullShare (A.bt d) f3 (lrow (A.bi d) (wL L)) (by decide) _).trans ?_
  rw [pointsTo_congr (gathered_b (F := F) j o h ho o' h' ho' (A.bt d) (A.bi d) (wL L) f3 rfl (list_b A d L hA j o' h' ho'))]

theorem out_w (j : Fin 2) (o h) (ho : o = ![j.val, 0, 0]) (w : BitVec 32) (h') (hw : w = BitVec.ofNat 32 (128 * j.val)) (f : Buf (Elt F) (owLoc d)) (pay : S128x128.Idx → Elt F .f32)
    (hp : pay = (dW o h).view.read (Elt F) (grow (α := Elt F .f32) (n := 50000) (by decide) (A.wt d) (A.wi d) (wL L))) :
    (((chunk (Memref.whole main_v11_0_scv) L w h').view.loc (thr d L) ↦[(chunk (Memref.whole main_v11_0_scv) L w h').view.set]{fullShare}
      (chunk (Memref.whole main_v11_0_scv) L w h').view.writes (Elt F) f [⟨Rect.whole S128x128, pay⟩]) : sProp 𝕄) = (owLoc d ↦[chunkSet (wL L) j]{fullShare} A.gw d) := by
  subst hp
  rw [← View.write_univ_eq_writes_whole, View.writes_nil, pointsTo_congr (copied_w (F := F) L j o h ho w h' hw A d f), (set_chunk L w j h' hw).1]
  try rfl
theorem out_b (j : Fin 2) (o h) (ho : o = ![j.val, 0, 0]) (w : BitVec 32) (h') (hw : w = BitVec.ofNat 32 (128 * j.val)) (f : Buf (Elt F) (obLoc d)) (pay : S128x128.Idx → Elt F .f32)
    (hp : pay = (dB o h).view.read (Elt F) (grow (α := Elt F .f32) (n := 782) (by decide) (A.bt d) (A.bi d) (wL L))) :
    (((chunk (Memref.whole main_v11_1_scv) L w h').view.loc (thr d L) ↦[(chunk (Memref.whole main_v11_1_scv) L w h').view.set]{fullShare}
      (chunk (Memref.whole main_v11_1_scv) L w h').view.writes (Elt F) f [⟨Rect.whole S128x128, pay⟩]) : sProp 𝕄) = (obLoc d ↦[chunkSet (wL L) j]{fullShare} A.gb d) := by
  subst hp
  rw [← View.write_univ_eq_writes_whole, View.writes_nil, pointsTo_congr (copied_b (F := F) L j o h ho w h' hw A d f), (set_chunk L w j h' hw).2]
  try rfl

/-- A proposition set aside while the program's next operations run. -/
@[irreducible] def aside (Q : sProp 𝕄) : sProp 𝕄 := Q
theorem aside_eq (Q : sProp 𝕄) : aside Q = Q := by unfold aside; rfl

theorem creditW (o h) (hg : S50000x128.Gathers 0 S128x128) (j) : ((dW o h).slice (S128x128.rowRect hg.axis' j) (S128x128.stride_rowRect hg.axis' j)).view.dmaCredit = 4096 := by
  show (∏ b : Fin 2, (if b = (0 : Fin 2) then 1 else ![128, 128] b)) * 32 = 4096
  simp [Fin.prod_univ_two]
theorem creditB (o h) (hg : S782x128.Gathers 0 S128x128) (j) : ((dB o h).slice (S128x128.rowRect hg.axis' j) (S128x128.stride_rowRect hg.axis' j)).view.dmaCredit = 4096 := by
  show (∏ b : Fin 2, (if b = (0 : Fin 2) then 1 else ![128, 128] b)) * 32 = 4096
  simp [Fin.prod_univ_two]
theorem creditW_all (o h) : (dW o h).view.dmaCredit = 128 * 4096 := by
  show (∏ b : Fin 2, ![128, 128] b) * 32 = 128 * 4096
  simp [Fin.prod_univ_two]
theorem creditB_all (o h) : (dB o h).view.dmaCredit = 128 * 4096 := by
  show (∏ b : Fin 2, ![128, 128] b) * 32 = 128 * 4096
  simp [Fin.prod_univ_two]

set_option maxHeartbeats 8000000 in
theorem tile_body (hF : (K (F := F)).Facts) (hA : A.Ok) (O : CellTallies nD τ sig (HIx 1)) (W : Waits sig (HIx 1)) (hO : ∀ g, O g none = 0) :
    iprop(levAts (K (F := F)).L (K (F := F)).lev ∗ emp ∗ task A d (A.ow d) (A.ob d) (wL L)
        ∗ scopedBufs (thr d L) ∗ scopedSems0 (thr d L) ∗ owes (thr d L) O W)
      ⊢ wp frame (wpE (defs₀ (F := F)) 𝒱₀ (thr d L) none) Set.univ
          (cc0__sc_gather_body L (Memref.whole main_v7_scv) (Memref.isWhole_whole _) (Memref.whole main_v10_scv) (Memref.isWhole_whole _)
            (Memref.whole main_v2_scv) (Memref.isWhole_whole _) (Memref.whole main_v4_scv) (Memref.isWhole_whole _)
            (Memref.whole main_v11_0_scv) (Memref.isWhole_whole _) (Memref.whole main_v11_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scoped0 cc0_scoped1 cc0_scoped2 cc0_scoped3 cc0_scoped4 cc0_scoped5)
          fun _ => iprop(task A d (A.gw d) (A.gb d) (wL L)
            ∗ scopedBufs (thr d L) ∗ scopedSems0 (thr d L)
            ∗ ∃ W', ⌜∀ p ∈ W', p ∈ W ∨ p.2 = none⌝ ∗ owes (thr d L) O W') := by
  simp only [cc0__sc_gather_body_eq_skeleton]; unfold cc0__sc_gather_body_skel
  simp only [k0_part1_eq_skeleton, k0_part2_eq_skeleton, k0_part3_eq_skeleton, k0_part4_eq_skeleton]
  unfold k0_part1_skel k0_part2_skel k0_part3_skel k0_part4_skel
  rw [(K (F := F)).scopedBufs_V hF d (cV L) (jV L), SparseCore.Cfg.scopedSems0_V (Val := Elt F) d (cV L) (jV L), ownSems0_V, ownBufs_V]
  unfold task
  iintro ⟨#Hlv, -, ⟨Hwi, Hbi, Hwt, Hbt, Hw0, Hw1, Hb0, Hb1⟩, ⟨⟨%f0, H0⟩, ⟨%f1, H1⟩, ⟨%f2, H2⟩, ⟨%f3, H3⟩, Hbufs⟩, ⟨HsemG, HsemA, HsemB, HsemC, HsemD, HsemE, HsemF, Hsems⟩, HO⟩
  ihave Hmw := (show levAts (K (F := F)).L (K (F := F)).lev ⊢ Transfers.MayWaits (thr d L) (default : HIx 1) O from
    (K (F := F)).mayWaits_none (thr := thr d L) hO) $$ Hlv
  ihave Hwi := (Entails.of_eq (show (wiLoc d ↦[rowSet (wL L)]{fullShare} A.wi d : sProp 𝕄)
    = (iRow (Memref.whole main_v7_scv) L).view.loc (thr d L) ↦[(iRow (Memref.whole main_v7_scv) L).view.set]{fullShare} A.wi d by rw [(set_iRow L).1])) $$ Hwi
  ihave Hbi := (Entails.of_eq (show (biLoc d ↦[rowSet (wL L)]{fullShare} A.bi d : sProp 𝕄)
    = (iRow (Memref.whole main_v10_scv) L).view.loc (thr d L) ↦[(iRow (Memref.whole main_v10_scv) L).view.set]{fullShare} A.bi d by rw [(set_iRow L).2])) $$ Hbi
  ihave H0 := (Entails.of_eq (show ((thr d L).loc cc0_scratch0 ↦{fullShare} f0 : sProp 𝕄) = (Memref.whole cc0_scratch0).view.loc (thr d L) ↦{fullShare} f0 from rfl)) $$ H0
  ihave H1 := (Entails.of_eq (show ((thr d L).loc cc0_scratch1 ↦{fullShare} f1 : sProp 𝕄) = (Memref.whole cc0_scratch1).view.loc (thr d L) ↦{fullShare} f1 from rfl)) $$ H1
  sl_exec
  ihave H0 := (Entails.of_eq (congrArg (fun f => ((thr d L).loc cc0_scratch0 ↦{fullShare} f : sProp 𝕄)) (fetched_w d L f0 (A.wi d) (tile_body.sl.dma0 A d L) rfl))) $$ H0
  ihave H1 := (Entails.of_eq (congrArg (fun f => ((thr d L).loc cc0_scratch1 ↦{fullShare} f : sProp 𝕄)) (fetched_b d L f1 (A.bi d) (tile_body.sl.dma0_1 A d L) rfl))) $$ H1
  ihave H0 := (pts_lW d L _).1 $$ H0; icases H0 with ⟨H00, H01⟩
  ihave H1 := (pts_lB d L _).1 $$ H1; icases H1 with ⟨H10, H11⟩
  ihave H2 := (pts_dW d L _).1 $$ H2; icases H2 with ⟨H20, H21⟩
  ihave H3 := (pts_dB d L _).1 $$ H3; icases H3 with ⟨H30, H31⟩
  ihave Hwt := (Entails.of_eq (show (wtLoc d ↦{sh (wL L)} A.wt d : sProp 𝕄) = wAll.view.loc (thr d L) ↦[wAll.view.set]{sh (wL L)} A.wt d by rw [set_wAll])) $$ Hwt
  ihave Hbt := (Entails.of_eq (show (btLoc d ↦{sh (wL L)} A.bt d : sProp 𝕄) = bAll.view.loc (thr d L) ↦[bAll.view.set]{sh (wL L)} A.bt d by rw [set_bAll])) $$ Hbt
  -- the first chunk's two gathers, one batch on the shared semaphore
  have stW0 := backW_storable A d L hA f2 0 ![0, 0, 0] hb0 ![0, 0] hl0 rfl
  have stB0 := backB_storable A d L hA f3 0 ![0, 0, 0] hb0 ![0, 0] hl0 rfl
  have st0 := SparseCore.GatherBatch.append_storable (backW A d L hA f2 0 ![0, 0, 0] hb0 ![0, 0] hl0 rfl) (backB A d L hA f3 0 ![0, 0, 0] hb0 ![0, 0] hl0 rfl)
  imod (Transfers.batch_alloc' countersEmb (thr d L) (default : HIx 1) 4096 (Fin.append (backW A d L hA f2 0 ![0, 0, 0] hb0 ![0, 0] hl0 rfl) (backB A d L hA f3 0 ![0, 0, 0] hb0 ![0, 0] hl0 rfl))) $$ HsemG with Hbat
  iapply (SparseCore.GatherBatch.wp_gatherIntoBatch (D := Fin.append (backW A d L hA f2 0 ![0, 0, 0] hb0 ![0, 0] hl0 rfl) (backB A d L hA f3 0 ![0, 0, 0] hb0 ![0, 0] hl0 rfl)) countersEmb 𝒱₀ (thr d L) none (default : HIx 1) 4096 (creditW ![0, 0, 0] hb0 _) (by decide)
    (list_w A d L hA 0 ![0, 0] hl0 rfl) (show 0 + 128 ≤ 128 + 128 by decide) (Nat.zero_le _) (fun j => SparseCore.GatherBatch.append_fst (backW A d L hA f2 0 ![0, 0, 0] hb0 ![0, 0] hl0 rfl) (backB A d L hA f3 0 ![0, 0, 0] hb0 ![0, 0] hl0 rfl) j _)) $$ [Hwt H20 H00 Hbat]
  · isplitl [Hwt]; · iexact Hwt
    isplitl [H20]; · iexact H20
    isplitl [H00]; · iexact H00
    iexact Hbat
  iintro Hbat
  sl_exec
  iapply (SparseCore.GatherBatch.wp_gatherIntoBatch (D := Fin.append (backW A d L hA f2 0 ![0, 0, 0] hb0 ![0, 0] hl0 rfl) (backB A d L hA f3 0 ![0, 0, 0] hb0 ![0, 0] hl0 rfl)) countersEmb 𝒱₀ (thr d L) none (default : HIx 1) 4096 (creditB ![0, 0, 0] hb0 _) (by decide)
    (list_b A d L hA 0 ![0, 0] hl0 rfl) (show 128 + 128 ≤ 128 + 128 by decide) (Nat.zero_le _) (fun j => SparseCore.GatherBatch.append_snd (backW A d L hA f2 0 ![0, 0, 0] hb0 ![0, 0] hl0 rfl) (backB A d L hA f3 0 ![0, 0, 0] hb0 ![0, 0] hl0 rfl) j _)) $$ [Hbt H30 H10 Hbat]
  · isplitl [Hbt]; · iexact Hbt
    isplitl [H30]; · iexact H30
    isplitl [H10]; · iexact H10
    iexact Hbat
  iintro Hbat
  sl_exec
  iapply (Transfers.wp_waitBatchMulO countersEmb 𝒱₀ (thr d L) none (default : HIx 1) (N := 4096) 128 (creditW_all ![0, 0, 0] hb0) (show 0 + 128 * 4096 ≤ 4096 * (128 + 128) by decide)) $$ [Hbat HO]
  · isplitl [Hbat]; · iexact Hbat
    isplitl [HO]; · iexact HO
    iapply (Transfers.MayWaits.elim (SemLoc.dma cc0_scratch4.sem)) $$ Hmw
  iintro ⟨Hbat, HO⟩
  ihave Hbat := (Entails.of_eq (aside_eq _).symm) $$ Hbat
  sl_exec
  ihave Hbat := (Entails.of_eq (aside_eq _)) $$ Hbat
  iapply (Transfers.wp_waitBatchAllO countersEmb 𝒱₀ (thr d L) none (default : HIx 1) (N := 4096) (creditB_all ![0, 0, 0] hb0) (by decide) (show 0 + 128 * 4096 + 128 * 4096 = 4096 * (128 + 128) by decide)) $$ [Hbat HO]
  · isplitl [Hbat]; · iexact Hbat
    isplitl [HO]; · iexact HO
    iapply (Transfers.MayWaits.elim (SemLoc.dma cc0_scratch4.sem)) $$ Hmw
  iintro ⟨Hback, HsemG, HO⟩
  ihave Hback := (Entails.of_eq (SparseCore.GatherBatch.append_all (backW A d L hA f2 0 ![0, 0, 0] hb0 ![0, 0] hl0 rfl) (backB A d L hA f3 0 ![0, 0, 0] hb0 ![0, 0] hl0 rfl))) $$ Hback
  icases Hback with ⟨HbackW, HbackB⟩
  ihave HbackW := (backW_join A d L hA f2 0 ![0, 0, 0] hb0 rfl ![0, 0] hl0 rfl) $$ HbackW
  ihave HbackB := (backB_join A d L hA f3 0 ![0, 0, 0] hb0 rfl ![0, 0] hl0 rfl) $$ HbackB
  icases HbackW with ⟨H20, H00, Hwt⟩
  icases HbackB with ⟨H30, H10, Hbt⟩
  sl_exec
  -- the second chunk's two gathers
  have stW1 := backW_storable A d L hA f2 1 ![1, 0, 0] hb1 ![1, 0] hl1 rfl
  have stB1 := backB_storable A d L hA f3 1 ![1, 0, 0] hb1 ![1, 0] hl1 rfl
  have st1 := SparseCore.GatherBatch.append_storable (backW A d L hA f2 1 ![1, 0, 0] hb1 ![1, 0] hl1 rfl) (backB A d L hA f3 1 ![1, 0, 0] hb1 ![1, 0] hl1 rfl)
  imod (Transfers.batch_alloc' countersEmb (thr d L) (default : HIx 1) 4096 (Fin.append (backW A d L hA f2 1 ![1, 0, 0] hb1 ![1, 0] hl1 rfl) (backB A d L hA f3 1 ![1, 0, 0] hb1 ![1, 0] hl1 rfl))) $$ HsemG with Hbat
  iapply (SparseCore.GatherBatch.wp_gatherIntoBatch (D := Fin.append (backW A d L hA f2 1 ![1, 0, 0] hb1 ![1, 0] hl1 rfl) (backB A d L hA f3 1 ![1, 0, 0] hb1 ![1, 0] hl1 rfl)) countersEmb 𝒱₀ (thr d L) none (default : HIx 1) 4096 (creditW ![1, 0, 0] hb1 _) (by decide)
    (list_w A d L hA 1 ![1, 0] hl1 rfl) (show 0 + 128 ≤ 128 + 128 by decide) (Nat.zero_le _) (fun j => SparseCore.GatherBatch.append_fst (backW A d L hA f2 1 ![1, 0, 0] hb1 ![1, 0] hl1 rfl) (backB A d L hA f3 1 ![1, 0, 0] hb1 ![1, 0] hl1 rfl) j _)) $$ [Hwt H21 H01 Hbat]
  · isplitl [Hwt]; · iexact Hwt
    isplitl [H21]; · iexact H21
    isplitl [H01]; · iexact H01
    iexact Hbat
  iintro Hbat
  sl_exec
  iapply (SparseCore.GatherBatch.wp_gatherIntoBatch (D := Fin.append (backW A d L hA f2 1 ![1, 0, 0] hb1 ![1, 0] hl1 rfl) (backB A d L hA f3 1 ![1, 0, 0] hb1 ![1, 0] hl1 rfl)) countersEmb 𝒱₀ (thr d L) none (default : HIx 1) 4096 (creditB ![1, 0, 0] hb1 _) (by decide)
    (list_b A d L hA 1 ![1, 0] hl1 rfl) (show 128 + 128 ≤ 128 + 128 by decide) (Nat.zero_le _) (fun j => SparseCore.GatherBatch.append_snd (backW A d L hA f2 1 ![1, 0, 0] hb1 ![1, 0] hl1 rfl) (backB A d L hA f3 1 ![1, 0, 0] hb1 ![1, 0] hl1 rfl) j _)) $$ [Hbt H31 H11 Hbat]
  · isplitl [Hbt]; · iexact Hbt
    isplitl [H31]; · iexact H31
    isplitl [H11]; · iexact H11
    iexact Hbat
  iintro Hbat
  sl_exec
  iapply (Transfers.wp_waitBatchMulO countersEmb 𝒱₀ (thr d L) none (default : HIx 1) (N := 4096) 128 (creditW_all ![1, 0, 0] hb1) (show 0 + 128 * 4096 ≤ 4096 * (128 + 128) by decide)) $$ [Hbat HO]
  · isplitl [Hbat]; · iexact Hbat
    isplitl [HO]; · iexact HO
    iapply (Transfers.MayWaits.elim (SemLoc.dma cc0_scratch4.sem)) $$ Hmw
  iintro ⟨Hbat, HO⟩
  ihave Hbat := (Entails.of_eq (aside_eq _).symm) $$ Hbat
  sl_exec
  ihave Hbat := (Entails.of_eq (aside_eq _)) $$ Hbat
  iapply (Transfers.wp_waitBatchAllO countersEmb 𝒱₀ (thr d L) none (default : HIx 1) (N := 4096) (creditB_all ![1, 0, 0] hb1) (by decide) (show 0 + 128 * 4096 + 128 * 4096 = 4096 * (128 + 128) by decide)) $$ [Hbat HO]
  · isplitl [Hbat]; · iexact Hbat
    isplitl [HO]; · iexact HO
    iapply (Transfers.MayWaits.elim (SemLoc.dma cc0_scratch4.sem)) $$ Hmw
  iintro ⟨Hback, HsemG, HO⟩
  ihave Hback := (Entails.of_eq (SparseCore.GatherBatch.append_all (backW A d L hA f2 1 ![1, 0, 0] hb1 ![1, 0] hl1 rfl) (backB A d L hA f3 1 ![1, 0, 0] hb1 ![1, 0] hl1 rfl))) $$ Hback
  icases Hback with ⟨HbackW, HbackB⟩
  ihave HbackW := (backW_join A d L hA f2 1 ![1, 0, 0] hb1 rfl ![1, 0] hl1 rfl) $$ HbackW
  ihave HbackB := (backB_join A d L hA f3 1 ![1, 0, 0] hb1 rfl ![1, 0] hl1 rfl) $$ HbackB
  icases HbackW with ⟨H21, H01, Hwt⟩
  icases HbackB with ⟨H31, H11, Hbt⟩
  -- the four copies out
  ihave Hw0 := (Entails.of_eq (show (owLoc d ↦[chunkSet (wL L) 0]{fullShare} A.ow d : sProp 𝕄)
    = (chunk (Memref.whole main_v11_0_scv) L 0#32 (k0_off2_inb L 0)).view.loc (thr d L) ↦[(chunk (Memref.whole main_v11_0_scv) L 0#32 (k0_off2_inb L 0)).view.set]{fullShare} A.ow d by rw [(set_chunk L 0#32 0 (k0_off2_inb L 0) rfl).1])) $$ Hw0
  ihave Hb0 := (Entails.of_eq (show (obLoc d ↦[chunkSet (wL L) 0]{fullShare} A.ob d : sProp 𝕄)
    = (chunk (Memref.whole main_v11_1_scv) L 0#32 (k0_off2_inb L 0)).view.loc (thr d L) ↦[(chunk (Memref.whole main_v11_1_scv) L 0#32 (k0_off2_inb L 0)).view.set]{fullShare} A.ob d by rw [(set_chunk L 0#32 0 (k0_off2_inb L 0) rfl).2])) $$ Hb0
  ihave Hw1 := (Entails.of_eq (show (owLoc d ↦[chunkSet (wL L) 1]{fullShare} A.ow d : sProp 𝕄)
    = (chunk (Memref.whole main_v11_0_scv) L 128#32 (k0_off2_inb L 1)).view.loc (thr d L) ↦[(chunk (Memref.whole main_v11_0_scv) L 128#32 (k0_off2_inb L 1)).view.set]{fullShare} A.ow d by rw [(set_chunk L 128#32 1 (k0_off2_inb L 1) rfl).1])) $$ Hw1
  ihave Hb1 := (Entails.of_eq (show (obLoc d ↦[chunkSet (wL L) 1]{fullShare} A.ob d : sProp 𝕄)
    = (chunk (Memref.whole main_v11_1_scv) L 128#32 (k0_off2_inb L 1)).view.loc (thr d L) ↦[(chunk (Memref.whole main_v11_1_scv) L 128#32 (k0_off2_inb L 1)).view.set]{fullShare} A.ob d by rw [(set_chunk L 128#32 1 (k0_off2_inb L 1) rfl).2])) $$ Hb1
  sl_exec
  ihave Hw0 := (Entails.of_eq (out_w A d L 0 ![0, 0, 0] hb0 rfl 0#32 (k0_off2_inb L 0) rfl _ (tile_body.sl.dma0_2 A d L) rfl)) $$ Hw0
  ihave Hb0 := (Entails.of_eq (out_b A d L 0 ![0, 0, 0] hb0 rfl 0#32 (k0_off2_inb L 0) rfl _ (tile_body.sl.dma0_3 A d L) rfl)) $$ Hb0
  ihave Hw1 := (Entails.of_eq (out_w A d L 1 ![1, 0, 0] hb1 rfl 128#32 (k0_off2_inb L 1) rfl _ (tile_body.sl.dma0_4 A d L) rfl)) $$ Hw1
  ihave Hb1 := (Entails.of_eq (out_b A d L 1 ![1, 0, 0] hb1 rfl 128#32 (k0_off2_inb L 1) rfl _ (tile_body.sl.dma0_5 A d L) rfl)) $$ Hb1
  ihave Hwi := (Entails.of_eq (show ((iRow (Memref.whole main_v7_scv) L).view.loc (thr d L) ↦[(iRow (Memref.whole main_v7_scv) L).view.set]{fullShare} A.wi d : sProp 𝕄)
    = (wiLoc d ↦[rowSet (wL L)]{fullShare} A.wi d) by rw [(set_iRow L).1])) $$ Hwi
  ihave Hbi := (Entails.of_eq (show ((iRow (Memref.whole main_v10_scv) L).view.loc (thr d L) ↦[(iRow (Memref.whole main_v10_scv) L).view.set]{fullShare} A.bi d : sProp 𝕄)
    = (biLoc d ↦[rowSet (wL L)]{fullShare} A.bi d) by rw [(set_iRow L).2])) $$ Hbi
  ihave Hwt := (Entails.of_eq (show (wAll.view.loc (thr d L) ↦[wAll.view.set]{sh (wL L)} A.wt d : sProp 𝕄) = (wtLoc d ↦{sh (wL L)} A.wt d) by rw [set_wAll])) $$ Hwt
  ihave Hbt := (Entails.of_eq (show (bAll.view.loc (thr d L) ↦[bAll.view.set]{sh (wL L)} A.bt d : sProp 𝕄) = (btLoc d ↦{sh (wL L)} A.bt d) by rw [set_bAll])) $$ Hbt
  ihave H0 := (pts_lW d L _).2 $$ [H00 H01]
  · isplitl [H00]; · iexact H00
    iexact H01
  ihave H1 := (pts_lB d L _).2 $$ [H10 H11]
  · isplitl [H10]; · iexact H10
    iexact H11
  ihave H2 := (pts_dW d L _).2 $$ [H20 H21]
  · isplitl [H20]; · iexact H20
    iexact H21
  ihave H3 := (pts_dB d L _).2 $$ [H30 H31]
  · isplitl [H30]; · iexact H30
    iexact H31
  sl_step
  isplitl [Hwi Hbi Hwt Hbt Hw0 Hw1 Hb0 Hb1]
  · isplitl [Hwi]; · iexact Hwi
    isplitl [Hbi]; · iexact Hbi
    isplitl [Hwt]; · iexact Hwt
    isplitl [Hbt]; · iexact Hbt
    isplitl [Hw0]; · iexact Hw0
    isplitl [Hw1]; · iexact Hw1
    isplitl [Hb0]; · iexact Hb0
    iexact Hb1
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [HsemG HsemA HsemB HsemC HsemD HsemE HsemF Hsems]
  · isplitl [HsemG]; · iexact HsemG
    isplitl [HsemA]; · iexact HsemA
    isplitl [HsemB]; · iexact HsemB
    isplitl [HsemC]; · iexact HsemC
    isplitl [HsemD]; · iexact HsemD
    isplitl [HsemE]; · iexact HsemE
    isplitl [HsemF]; · iexact HsemF
    iexact Hsems
  iexists _; isplitr
  swap; · iexact HO
  ipureintro; intro p hp
  iterate 10 (rcases Finset.mem_insert.mp hp with hp | hp; · exact .inr (hp ▸ rfl))
  exact .inl hp

end Body

end Cert.KernelIdeal.Run

end
-- ==== Proof.KernelIdealTcRun.lean ====
/-
  The TensorCore body at one grid point, run on whole staging buffers: at the first point it builds the matrix the
  products are taken against and starts the total at zero, at every other point it reads both as the point before left
  them; at every point it adds the block's share to the total.
-/
module

public import proofs.«01_k».proof.Proof.KernelIdealBase
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.WholeRead
public import Idealize.ShloMosaic.Lib.WritesUnit

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

/-- A point is the first. -/
abbrev first (i : grid1.Coords) : Prop := (Scalar.cmpi .ne (Scalar.extui (Scalar.cmpi .eq (BitVec.ofNat 32 (i 0).val) 0#32)) 0#32) = 1#1

theorem first_iff (t : Fin grid1.N) : first (grid1.coords t) ↔ t.val = 0 := by
  have ht : t.val < 16 := Nat.lt_of_lt_of_eq t.isLt N_1
  have e0 : (grid1.coords t 0).val = t.val / 1 % 16 := Pipeline.Grid.coords_val t 0 (by decide) rfl
  have e1 : t.val / 1 % 16 = t.val := by omega
  simp only [first, e0, e1]
  word_cmp

/-- The matrix: the masked table rows in columns 0–127, the masked bias entries with the sampling term in 128–255. -/
def rhs (x5 : Vec F S4096x128 .f32) (x6 : Vec F S4096x128 .f32) (x7 : Vec F S4096x1 .i32) (x8 : Vec F S4096x1 .f32) : Vec F S4096x256 .f32 := fun i =>
  if h : (i 1).val < 128 then k1_pay3 x7 x5 (ix2 (i 0) ⟨(i 1).val, h⟩)
  else k1_pay6 k1_pay4 (k1_pay5 x7 x6) x8 (ix2 (i 0) ⟨(i 1).val - 128, by have h2 : (i 1).val < 256 := (i 1).isLt; show _ < 128; omega⟩)

/-- One block's share of the total, before scaling. -/
def part (x0 : Vec F S256x64 .f32) (x1 : Vec F S256x128 .f32) (x2 : Vec F S256x128 .f32) (x3 : Vec F S256x1 .i32) (x4 : Vec F S256x1 .f32) (r : Vec F S4096x256 .f32) : F .f32 :=
  k1_pay14 (k1_pay7 x0 r) (k1_pay8 x3) (k1_pay9 x0) (k1_pay10 x1) (iota .tc S256x128 32 [1] iota_S256x128_d1_w32) (k1_pay11 x3) (k1_pay12 x3) k1_pay13 x2 x4

/-- A whole load from a whole memref held at the contents that read `x` reads `x`. -/
theorem ld {sp : Space} {s : Shape} {e : EltTy} {m : Memref sig .tc sp s e} (h : m.IsWhole) (x : s.Idx → Elt F e) {o : Fin s.rank → ℕ} (ho : ∀ a, o a = 0)
    (inb : ∀ a, o a + s.size a ≤ s.size a) : View.readAt (Elt F) m.view (Rect.unit (s := s) o s.size inb).toLoadRect (h.unread x) = x :=
  funext fun y => (h.readAt_unread x _ y).trans (congrArg x (funext fun a => Fin.ext (by show o a + 1 * (y a).val = (y a).val; rw [ho]; omega)))

theorem z2 : ∀ a : Fin 2, (![0, 0] : Fin 2 → ℕ) a = 0 := by decide

/-- Two column blocks written side by side, read at an index. -/
theorem read_halves (v : View sig .tc .vmem S4096x256 .f32) (f : v.ty.Contents (Elt F)) (p q : Vec F S4096x128 .f32) (h0 h1) :
    v.read (Elt F) (v.writes (Elt F) f [⟨Rect.unit (s := S4096x256) ![0, 128] S4096x128.size h1, q⟩, ⟨Rect.unit (s := S4096x256) ![0, 0] S4096x128.size h0, p⟩])
      = fun i => if h : (i 1).val < 128 then p (ix2 (i 0) ⟨(i 1).val, h⟩)
          else q (ix2 (i 0) ⟨(i 1).val - 128, by have h2 : (i 1).val < 256 := (i 1).isLt; show _ < 128; omega⟩) := by
  funext i
  have h2 : (i 1).val < 256 := (i 1).isLt
  by_cases h : (i 1).val < 128
  · rw [dif_pos h]
    refine (View.read_writes_cons_unit_of_not_mem v f h1 q _ i rfl 1 (.inl h)).trans ?_
    exact View.read_writes_cons_unit_of_mem v f h0 p _ i (ix2 (i 0) ⟨(i 1).val, h⟩) rfl (Fin.forall_fin_two.mpr ⟨(Nat.zero_add _).symm, (Nat.zero_add _).symm⟩)
  · rw [dif_neg h]
    exact View.read_writes_cons_unit_of_mem v f h1 q _ i (ix2 (i 0) ⟨(i 1).val - 128, by show _ < 128; omega⟩) rfl
      (Fin.forall_fin_two.mpr ⟨(Nat.zero_add _).symm, by show (i 1).val = 128 + ((i 1).val - 128); omega⟩)

/-- The one word of the total, read after a store. -/
theorem read_word (v : View sig .tc .smem S1x1 .f32) (f : v.ty.Contents (Elt F)) (z : F .f32) (L : List (View.Piece (Elt F) S1x1 .f32)) (h0) :
    v.read (Elt F) (v.writes (Elt F) f (⟨Rect.unit (s := S1x1) ![0, 0] ![1, 1] h0, fun _ => z⟩ :: L)) = fun _ => z := by
  funext i
  exact View.read_writes_cons_unit_of_mem v f h0 (fun _ => z) L i i rfl (Fin.forall_fin_two.mpr ⟨(Nat.zero_add _).symm, (Nat.zero_add _).symm⟩)

set_option maxHeartbeats 1000000 in
theorem body_A (c : Dev nD) (i : grid1.Coords) (arg1 : Memref sig .tc .vmem S256x64 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x1 .i32) (harg4 : arg4.IsWhole) (arg5 : Memref sig .tc .vmem S256x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x1 .i32) (harg8 : arg8.IsWhole) (arg9 : Memref sig .tc .vmem S4096x1 .f32) (harg9 : arg9.IsWhole) (arg10 : Memref sig .tc .smem S1x1 .f32) (harg10 : arg10.IsWhole) (arg11 : Memref sig .tc .vmem S4096x256 .f32) (harg11 : arg11.IsWhole) (hc : first i)
    (x0 : Vec F S256x64 .f32) (x1 : Vec F S256x128 .f32) (x2 : Vec F S256x128 .f32) (x3 : Vec F S256x1 .i32) (x4 : Vec F S256x1 .f32) (x5 : Vec F S4096x128 .f32) (x6 : Vec F S4096x128 .f32) (x7 : Vec F S4096x1 .i32) (x8 : Vec F S4096x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (fun _ => k1_pay1 (part x0 x1 x2 x3 x4 (rhs x5 x6 x7 x8)) (Scalar.ofBits .f32 0x00000000#32)) ∗ owns (c : Thread nD τ) arg11 fullShare (rhs x5 x6 x7 x8)) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11) K := by
  simp only [cc1__tc_body_eq_skeleton]; unfold cc1__tc_body_skel
  simp only [k1_part2_eq_skeleton, k1_part1_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := sl_exact hc)
  sl_step
  have eP : body_A.sl.v110 c arg6 harg6 arg8 harg8 x5 x7 = k1_pay3 x7 x5 :=
    (show body_A.sl.v110 c arg6 harg6 arg8 harg8 x5 x7 = k1_pay3 (View.readAt (Elt F) arg8.view (Rect.unit (s := S4096x1) ![0, 0] S4096x1.size inb_S4096x1_S4096x1_0_0).toLoadRect (harg8.unread x7))
      (View.readAt (Elt F) arg6.view (Rect.unit (s := S4096x128) ![0, 0] S4096x128.size inb_S4096x128_S4096x128_0_0).toLoadRect (harg6.unread x5)) from rfl).trans
      (by rw [ld harg8 x7 z2, ld harg6 x5 z2])
  have eQ : k1_pay6 body_A.sl.v115 (body_A.sl.v125 c arg7 harg7 arg8 harg8 x6 x7) (body_A.sl.r c arg9 harg9 x8) = k1_pay6 k1_pay4 (k1_pay5 x7 x6) x8 :=
    (show k1_pay6 body_A.sl.v115 (body_A.sl.v125 c arg7 harg7 arg8 harg8 x6 x7) (body_A.sl.r c arg9 harg9 x8) = k1_pay6 k1_pay4 (k1_pay5 (View.readAt (Elt F) arg8.view (Rect.unit (s := S4096x1) ![0, 0] S4096x1.size inb_S4096x1_S4096x1_0_0).toLoadRect (harg8.unread x7))
      (View.readAt (Elt F) arg7.view (Rect.unit (s := S4096x128) ![0, 0] S4096x128.size inb_S4096x128_S4096x128_0_0).toLoadRect (harg7.unread x6)))
      (View.readAt (Elt F) arg9.view (Rect.unit (s := S4096x1) ![0, 0] S4096x1.size inb_S4096x1_S4096x1_0_0).toLoadRect (harg9.unread x8)) from rfl).trans
      (by rw [ld harg8 x7 z2, ld harg7 x6 z2, ld harg9 x8 z2])
  have eH : ∀ f, View.read (Elt F) arg11.view (arg11.view.writes (Elt F) f (body_A.sl.HS_2 c arg6 harg6 arg7 harg7 arg8 harg8 arg9 harg9 x5 x6 x7 x8)) = rhs x5 x6 x7 x8 := fun f => by
    delta body_A.sl.HS_2
    rw [eP, eQ, read_halves]
    rfl
  have e6 : body_A.sl.v6 c arg6 harg6 arg7 harg7 arg8 harg8 arg9 harg9 arg11 x5 x6 x7 x8 = rhs x5 x6 x7 x8 := by
    funext y
    refine (congrFun (eH _) ((Rect.unit (s := S4096x256) ![0, 0] S4096x256.size inb_S4096x256_S4096x256_0_0).toLoadRect.idx y)).trans ?_
    exact congrArg (rhs x5 x6 x7 x8) (funext fun a => Fin.ext (by show ![0, 0] a + 1 * (y a).val = (y a).val; rw [z2]; omega))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    rw [read_word]
    funext _
    delta body_A.sl.r_8 body_A.sl.r_1 body_A.sl.r_2 body_A.sl.r_3 body_A.sl.r_4 body_A.sl.r_5 body_A.sl.r_6 body_A.sl.v27
    rw [e6]
    rw [ld harg1 x0 z2, ld harg2 x1 z2, ld harg3 x2 z2, ld harg4 x3 z2, ld harg5 x4 z2]
    rfl
  iexists _; isplitr; swap; · iexact HS
  ipureintro
  exact eH _

set_option maxHeartbeats 1000000 in
theorem body_B (c : Dev nD) (i : grid1.Coords) (arg1 : Memref sig .tc .vmem S256x64 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x1 .i32) (harg4 : arg4.IsWhole) (arg5 : Memref sig .tc .vmem S256x1 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x1 .i32) (harg8 : arg8.IsWhole) (arg9 : Memref sig .tc .vmem S4096x1 .f32) (harg9 : arg9.IsWhole) (arg10 : Memref sig .tc .smem S1x1 .f32) (harg10 : arg10.IsWhole) (arg11 : Memref sig .tc .vmem S4096x256 .f32) (harg11 : arg11.IsWhole) (hc : ¬ first i)
    (x0 : Vec F S256x64 .f32) (x1 : Vec F S256x128 .f32) (x2 : Vec F S256x128 .f32) (x3 : Vec F S256x1 .i32) (x4 : Vec F S256x1 .f32) (x5 : Vec F S4096x128 .f32) (x6 : Vec F S4096x128 .f32) (x7 : Vec F S4096x1 .i32) (x8 : Vec F S4096x1 .f32) (acc : Vec F S1x1 .f32) (r : Vec F S4096x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare acc ∗ owns (c : Thread nD τ) arg11 fullShare r
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (fun _ => k1_pay1 (part x0 x1 x2 x3 x4 r) (acc (ix2 0 0))) ∗ owns (c : Thread nD τ) arg11 fullShare r) -∗ K ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11) K := by
  simp only [cc1__tc_body_eq_skeleton]; unfold cc1__tc_body_skel
  simp only [k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfs
  sl_exec (disch := sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    rw [read_word]
    funext _
    delta body_B.sl.r_7 body_B.sl.r_6 body_B.sl.r body_B.sl.r_1 body_B.sl.r_2 body_B.sl.r_3 body_B.sl.r_4 body_B.sl.r_5 body_B.sl.v27
    rw [ld harg1 x0 z2, ld harg2 x1 z2, ld harg3 x2 z2, ld harg4 x3 z2, ld harg5 x4 z2, ld harg11 r z2, ld harg10 acc z2]
    exact congrArg (fun j => k1_pay1 (part x0 x1 x2 x3 x4 r) (acc j)) (funext fun a => by fin_cases a <;> rfl)
  iexists _; isplitr; swap; · iexact HS
  ipureintro
  exact harg11.read_unread _

end Cert.KernelIdeal.Run

end
-- ==== Proof.KernelIdealTc.lean ====
/-
  The TensorCore call as the pipeline library sees it, entered with its arrays at any contents `V`: what every staging
  buffer holds point by point, the body's obligation, and the region over the thread state "every unscoped buffer at
  `V`", left with the result's array at the total after the last point.
-/
module

public import proofs.«01_k».proof.Proof.KernelIdealTcRun
public import Idealize.ShloMosaic.Lib.Pipeline.RegionsLoop

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The matrix built at the first point. -/
def rhsV (c : Dev nD) : Vec F S4096x256 .f32 := rhs (iblk V c 5 t1_0) (iblk V c 6 t1_0) (iblk V c 7 t1_0) (iblk V c 8 t1_0)

/-- Point `t`'s share of the total, before scaling. -/
def partV (c : Dev nD) (t : Fin cfg1.N) : F .f32 := part (iblk V c 0 t) (iblk V c 1 t) (iblk V c 2 t) (iblk V c 3 t) (iblk V c 4 t) (rhsV V c)

/-- The total after point `n`. -/
def accV (c : Dev nD) : (n : ℕ) → n < cfg1.N → F .f32
  | 0, h => k1_pay1 (partV V c ⟨0, h⟩) (Scalar.ofBits .f32 0x00000000#32)
  | n + 1, h => k1_pay1 (partV V c ⟨n + 1, h⟩) (accV c n (Nat.lt_of_succ_lt h))

/-- What the scratch matrix holds before position `n`: anything, then the matrix. -/
def PhiV (c : Dev nD) : (n : ℕ) → n ≤ cfg1.N → sProp 𝕄
  | 0, _ => Pipeline.scopedRest (Ix := HIx 1) (Name := ℕ) (U := UU) (Lvl := ℕ) (Val := Elt F) spec1 c
  | _ + 1, _ => owns (c : Thread nD τ) (Memref.whole cc1_scratch0) fullShare (rhsV V c)

theorem PhiV_zero (c : Dev nD) (n : ℕ) (h : n ≤ cfg1.N) (hz : n = 0) :
    PhiV V c n h = iprop(∃ d, owns (c : Thread nD τ) (Memref.whole cc1_scratch0) fullShare d) := by
  subst hz
  show Pipeline.scopedRest (Ix := HIx 1) (Name := ℕ) (U := UU) (Lvl := ℕ) (Val := Elt F) spec1 c = _
  rw [scopedRest1_eq]
  simp only [owns_whole]

theorem PhiV_pos (c : Dev nD) (n : ℕ) (h : n ≤ cfg1.N) (hz : n ≠ 0) :
    PhiV V c n h = owns (c : Thread nD τ) (Memref.whole cc1_scratch0) fullShare (rhsV V c) := by
  cases n with
  | zero => exact absurd rfl hz
  | succ n => rfl

/-- The proof data of the call on core `c`. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => fun _ => accV V c t.val t.isLt
  Φ t := PhiV V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) : (dat V c).Φ t.castSucc = PhiV V c t.val (Nat.le_of_lt t.isLt) := by
  dsimp only [dat]; exact Pipeline.Dat.Φ_castSucc (PhiV V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = iblk V c 6 t := by dsimp only [dat]
theorem after1_7 (c : Dev nD) (t : Fin cfg1.N) : (dat V c).after 7 t = iblk V c 7 t := by dsimp only [dat]
theorem after1_8 (c : Dev nD) (t : Fin cfg1.N) : (dat V c).after 8 t = iblk V c 8 t := by dsimp only [dat]
theorem after1_9 (c : Dev nD) (t : Fin cfg1.N) : (dat V c).after 9 t = fun _ => accV V c t.val t.isLt := by dsimp only [dat]

theorem before1_0 (c : Dev nD) (t : Fin cfg1.N) (d) : (dat V c).before 0 t d = iblk V c 0 t :=
  ((dat V c).before_in_eq_fetched 0 rfl (fun _ => rfl) (fun _ _ _ => rfl) (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (dat V c).before 1 t d = iblk V c 1 t :=
  ((dat V c).before_in_eq_fetched 1 rfl (fun _ => rfl) (fun _ _ _ => rfl) (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (dat V c).before 2 t d = iblk V c 2 t :=
  ((dat V c).before_in_eq_fetched 2 rfl (fun _ => rfl) (fun _ _ _ => rfl) (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (dat V c).before 3 t d = iblk V c 3 t :=
  ((dat V c).before_in_eq_fetched 3 rfl (fun _ => rfl) (fun _ _ _ => rfl) (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (dat V c).before 4 t d = iblk V c 4 t :=
  ((dat V c).before_in_eq_fetched 4 rfl (fun _ => rfl) (fun _ _ _ => rfl) (fun t => by rw [after1_4]; unfold Dat.blockOf iblk; rw [A_eq]; try rfl) t d).trans
    (by unfold Dat.fetched Dat.blockOf iblk; rw [A_eq]; try rfl)
theorem before1_5 (c : Dev nD) (t : Fin cfg1.N) (d) : (dat V c).before 5 t d = iblk V c 5 t :=
  ((dat V c).before_in_eq_fetched 5 rfl (fun _ => rfl) (fun _ _ _ => rfl) (fun t => by rw [after1_5]; unfold Dat.blockOf iblk; rw [A_eq]; try rfl) t d).trans
    (by unfold Dat.fetched Dat.blockOf iblk; rw [A_eq]; try rfl)
theorem before1_6 (c : Dev nD) (t : Fin cfg1.N) (d) : (dat V c).before 6 t d = iblk V c 6 t :=
  ((dat V c).before_in_eq_fetched 6 rfl (fun _ => rfl) (fun _ _ _ => rfl) (fun t => by rw [after1_6]; unfold Dat.blockOf iblk; rw [A_eq]; try rfl) t d).trans
    (by unfold Dat.fetched Dat.blockOf iblk; rw [A_eq]; try rfl)
theorem before1_7 (c : Dev nD) (t : Fin cfg1.N) (d) : (dat V c).before 7 t d = iblk V c 7 t :=
  ((dat V c).before_in_eq_fetched 7 rfl (fun _ => rfl) (fun _ _ _ => rfl) (fun t => by rw [after1_7]; unfold Dat.blockOf iblk; rw [A_eq]; try rfl) t d).trans
    (by unfold Dat.fetched Dat.blockOf iblk; rw [A_eq]; try rfl)
theorem before1_8 (c : Dev nD) (t : Fin cfg1.N) (d) : (dat V c).before 8 t d = iblk V c 8 t :=
  ((dat V c).before_in_eq_fetched 8 rfl (fun _ => rfl) (fun _ _ _ => rfl) (fun t => by rw [after1_8]; unfold Dat.blockOf iblk; rw [A_eq]; try rfl) t d).trans
    (by unfold Dat.fetched Dat.blockOf iblk; rw [A_eq]; try rfl)
/-- After the first point the total's buffer holds what the point before left. -/
theorem before1_9 (c : Dev nD) (t : Fin cfg1.N) (h0 : t.val ≠ 0) (d) :
    (dat V c).before 9 t d = fun _ => accV V c (t.val - 1) (Nat.lt_of_le_of_lt (Nat.sub_le _ _) t.isLt) := by
  have hN : t.val < 16 := lt_of_lt_of_eq t.isLt (show cfg1.N = 16 from N_1)
  rw [Dat.before_out_kept _ 9 rfl t (by omega) (Bool.eq_false_iff.mpr fun h => by have := (flush1_9 _).mp h; dsimp only at this; omega)
    (fun _ => rfl) (fun _ _ => rfl)]
  dsimp only [dat]

theorem accV_first (c : Dev nD) (t : Fin cfg1.N) (h0 : t.val = 0) :
    accV V c t.val t.isLt = k1_pay1 (partV V c t) (Scalar.ofBits .f32 0x00000000#32) := by
  obtain ⟨n, hn⟩ := t
  obtain rfl : n = 0 := h0
  rfl

theorem accV_later (c : Dev nD) (t : Fin cfg1.N) (h0 : t.val ≠ 0) :
    accV V c t.val t.isLt = k1_pay1 (partV V c t) (accV V c (t.val - 1) (Nat.lt_of_le_of_lt (Nat.sub_le _ _) t.isLt)) := by
  obtain ⟨n, hn⟩ := t
  cases n with
  | zero => exact absurd rfl h0
  | succ n => rfl

/-- What the body is called with at point `t`, -/
def bodyPre (c : Dev nD) (t : Fin cfg1.N) : sProp 𝕄 :=
  iprop((dat V c).Φ t.castSucc ∗ (dat V c).owesAt (none : HIx 1) t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))

/-- and what it returns. -/
def bodyPost (c : Dev nD) (t : Fin cfg1.N) : sProp 𝕄 :=
  iprop((dat V c).Φ t.succ ∗ (dat V c).owesAt (none : HIx 1) t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t)
    ∗ owns (c : Thread nD τ) (st1_9 t) fullShare ((dat V c).after 9 t))

set_option maxHeartbeats 6400000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5, before1_6, before1_7, before1_8]
  rw [show (dat V c).owesAt (none : HIx 1) t.succ = (dat V c).owesAt (none : HIx 1) t.castSucc from rfl,
    after1_0, after1_1, after1_2, after1_3, after1_4, after1_5, after1_6, after1_7, after1_8, after1_9]
  rw [show (dat V c).Φ t.succ = PhiV V c (t.val + 1) t.isLt from rfl, PhiV_pos V c (t.val + 1) _ (Nat.succ_ne_zero _), Phi_castSucc V c t]
  by_cases h0 : t.val = 0
  · rw [PhiV_zero V c _ _ h0, accV_first V c t h0]
    obtain rfl : t = t1_0 := Fin.ext h0
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_A (F := F) c (grid1.coords t1_0) _ _ _ _ _ _ _ _ _ _ _ _ _ _ _ _ _ _ _ _ _ _ ((first_iff t1_0).mpr h0) (iblk V c 0 t1_0) (iblk V c 1 t1_0) (iblk V c 2 t1_0) (iblk V c 3 t1_0) (iblk V c 4 t1_0) (iblk V c 5 t1_0) (iblk V c 6 t1_0) (iblk V c 7 t1_0) (iblk V c 8 t1_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS]; · iexact HS
    iintro ⟨H0, H1, H2, H3, H4, H5, H6, H7, H8, H9, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiV_pos V c _ _ h0, accV_later V c t h0]
    simp only [before1_9 V c t h0]
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_B (F := F) c (grid1.coords t) _ _ _ _ _ _ _ _ _ _ _ _ _ _ _ _ _ _ _ _ _ _ (fun h => h0 ((first_iff t).mp h)) (iblk V c 0 t) (iblk V c 1 t) (iblk V c 2 t) (iblk V c 3 t) (iblk V c 4 t) (iblk V c 5 t) (iblk V c 6 t) (iblk V c 7 t) (iblk V c 8 t) (fun _ => accV V c (t.val - 1) (Nat.lt_of_le_of_lt (Nat.sub_le _ _) t.isLt)) (rhsV V c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS]; · iexact HS
    iintro ⟨H0, H1, H2, H3, H4, H5, H6, H7, H8, H9, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg1.N) : defs₀ (F := F) .tc cfg1.body (cfg1.bodyArgs t (cfg1.slots t)) = bodyAt1 t := rfl

theorem body_obligation (c : Dev nD) : BodyObligation (dat V c) (defs₀ (F := F)) 𝒱₀ (none : HIx 1) Set.univ := fun t => by
  rw [bigSep_W1, bigSep_W1, defs₀_row]
  exact triple_restated (sound_body V c t) rfl .rfl fun _ => .rfl

/-! ## The region -/

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

/-- The result's array after the region. -/
def outV (c : Dev nD) : Buf (Elt F) ((c : Thread nD τ).loc main_v21) := (dat V c).arrAt 9 cfg1.N

variable (Vp : (c : Dev nD) → (b : Ref sig .tc) → Buf (Elt F) ((c : Thread nD τ).loc b))

set_option backward.isDefEq.respectTransparency.types false in
/-- The region: entered with every unscoped buffer at `V`, left with them at `Vp`, which differs from `V` only in the
    result's array. -/
def reg (hVp_out : ∀ c, Vp c main_v21 = outV V c) (hVp_ne : ∀ c (b : Ref sig .tc), b ≠ main_v21 → Vp c b = V c b) :
    Pipeline.RegionSeg (pcfgs (F := F)) adm (pdats V adm) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = owns (c : Thread nD τ) (Memref.whole cc1_scratch0) fullShare (rhsV V c) from
      PhiV_pos V c _ (Nat.le_of_lt_succ (Fin.last cfg1.N).isLt) (by rw [show (Fin.last cfg1.N).val = 16 from N_1]; decide),
      scopedRest1_eq, owns_whole]
    iintro Hr
    isplitr; · iempintro
    isplitr; · iempintro
    iexists _; iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg0 (by decide)).symm
        · exact ((pdats V adm 0 c).arrAt_in 1 rfl _).trans (hVp_ne c main_v12 (by decide)).symm
        · exact ((pdats V adm 0 c).arrAt_in 2 rfl _).trans (hVp_ne c main_v13 (by decide)).symm
        · exact ((pdats V adm 0 c).arrAt_in 3 rfl _).trans (hVp_ne c main_v15 (by decide)).symm
        · exact ((pdats V adm 0 c).arrAt_in 4 rfl _).trans (hVp_ne c main_arg5 (by decide)).symm
        · exact ((pdats V adm 0 c).arrAt_in 5 rfl _).trans (hVp_ne c main_v16 (by decide)).symm
        · exact ((pdats V adm 0 c).arrAt_in 6 rfl _).trans (hVp_ne c main_v17 (by decide)).symm
        · exact ((pdats V adm 0 c).arrAt_in 7 rfl _).trans (hVp_ne c main_v19 (by decide)).symm
        · exact ((pdats V adm 0 c).arrAt_in 8 rfl _).trans (hVp_ne c main_v20 (by decide)).symm
        · exact (hVp_out c).symm)
      (fun b hb => hVp_ne c b fun h => hb (h ▸ Finset.mem_image.mpr ⟨9, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run

end
-- ==== Proof.KernelIdealLaunch.lean ====
/-
  What the launch theorem asks of the SparseCore call: each task's obligation, the call's operands split among the tasks
  and joined again, and the ghost state the certificate starts with.
-/
module

public import proofs.«01_k».proof.Proof.KernelIdealBody
public import proofs.«01_k».proof.Proof.KernelIdealTc

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          (Memref.whole main_v7_scv) (Memref.isWhole_whole _) (Memref.whole main_v10_scv) (Memref.isWhole_whole _)
          (Memref.whole main_v2_scv) (Memref.isWhole_whole _) (Memref.whole main_v4_scv) (Memref.isWhole_whole _)
          (Memref.whole main_v11_0_scv) (Memref.isWhole_whole _) (Memref.whole main_v11_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scoped0 cc0_scoped1 cc0_scoped2 cc0_scoped3 cc0_scoped4 cc0_scoped5) ⟨⟩ c s := rfl

theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (A : CallIn F) (hA : A.Ok) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) scFacts hA O W hO).trans (wp_mono frame _ _ fun _ => waits_weaken)

/-! ## The operands split among the tasks -/

def widEquiv : Fin 2 × Fin 16 ≃ Fin 32 where
  toFun p := wid p.1 p.2
  invFun w := (⟨w.val % 2, by omega⟩, ⟨w.val / 2, by omega⟩)
  left_inv p := by
    have := p.1.isLt
    exact Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

theorem sep_regroup (X Y Z : sProp 𝕄) : iprop((X ∗ Y) ∗ Z) = iprop(X ∗ Y ∗ Z) := equiv_iff.mp ⟨BI.sep_assoc, BI.sep_assoc'⟩

theorem tasks_whole (A : CallIn F) (d : Dev nD) (ow : Buf (Elt F) (owLoc d)) (ob : Buf (Elt F) (obLoc d)) :
    (bigSep Finset.univ fun w : Fin 32 => task A d ow ob w)
      = iprop((wiLoc d ↦{fullShare} A.wi d) ∗ (biLoc d ↦{fullShare} A.bi d) ∗ (wtLoc d ↦{fullShare} A.wt d) ∗ (btLoc d ↦{fullShare} A.bt d)
          ∗ (owLoc d ↦{fullShare} ow) ∗ (obLoc d ↦{fullShare} ob) : sProp 𝕄) := by
  rw [rows_whole (ℓ := wiLoc d) rowSet rowSet_disjoint rowSet_cover, rows_whole (ℓ := biLoc d) rowSet rowSet_disjoint rowSet_cover,
    pointsTo_piecesOf (ℓ := wtLoc d) Finset.univ _ (o := 32) (by decide) fullShare,
    pointsTo_piecesOf (ℓ := btLoc d) Finset.univ _ (o := 32) (by decide) fullShare,
    chunks_whole (ℓ := owLoc d) (fun p => chunkSet p.1 p.2) chunkSet_disjoint chunkSet_cover,
    chunks_whole (ℓ := obLoc d) (fun p => chunkSet p.1 p.2) chunkSet_disjoint chunkSet_cover]
  simp only [← bigSep_sep']
  refine bigSep_congr fun w _ => ?_
  unfold task
  simp only [sep_regroup]

theorem cores_tasks (Φ : Fin 32 → sProp 𝕄) :
    (bigSep Finset.univ fun c : Fin ((K (F := F)).nCore 0) => bigSep Finset.univ fun s : Fin ((K (F := F)).nSub 0) => Φ (wid (Fin.cast nCore_zero c) (Fin.cast nSub_zero s)))
      = bigSep Finset.univ Φ := by
  show (bigSep Finset.univ fun c : Fin 2 => bigSep Finset.univ fun s : Fin 16 => Φ (wid c s)) = _
  rw [BI.bigSep_univ_equiv widEquiv Φ, bigSep_univ_prod]
  rfl

theorem st0_eq (A : CallIn F) (d : Dev nD) :
    (bigSep Finset.univ fun c : Fin ((K (F := F)).nCore 0) => (P A).st 0 d c)
      = iprop((wiLoc d ↦{fullShare} A.wi d) ∗ (biLoc d ↦{fullShare} A.bi d) ∗ (wtLoc d ↦{fullShare} A.wt d) ∗ (btLoc d ↦{fullShare} A.bt d)
          ∗ (owLoc d ↦{fullShare} A.ow d) ∗ (obLoc d ↦{fullShare} A.ob d) : sProp 𝕄) :=
  (cores_tasks fun w => task A d (A.ow d) (A.ob d) w).trans (tasks_whole A d (A.ow d) (A.ob d))

theorem dn0_eq (A : CallIn F) (d : Dev nD) :
    (bigSep Finset.univ fun c : Fin ((K (F := F)).nCore 0) => (P A).dn 0 d c)
      = iprop((wiLoc d ↦{fullShare} A.wi d) ∗ (biLoc d ↦{fullShare} A.bi d) ∗ (wtLoc d ↦{fullShare} A.wt d) ∗ (btLoc d ↦{fullShare} A.bt d)
          ∗ (owLoc d ↦{fullShare} A.gw d) ∗ (obLoc d ↦{fullShare} A.gb d) : sProp 𝕄) :=
  (cores_tasks fun w => task A d (A.gw d) (A.gb d) w).trans (tasks_whole A d (A.gw d) (A.gb d))

end Cert.KernelIdeal.Run

end
-- ==== Proof.KernelIdealMain.lean ====
/-
  @main on the TensorCore: the host operations before the SparseCore call, the call, the operations after it, the
  TensorCore call, the last reshape; what every buffer holds after each, and the run of the whole program.
-/
module

public import proofs.«01_k».proof.Proof.KernelIdealLaunch

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

def opsA : List (HloOp τ sig (Elt F)) :=
  [ StableHlo.reshape main_arg1 main_v0 (rfl : (.i32 : EltTy) = .i32) shapeCasts_S4096x1_S4096,
    StableHlo.binary main_v0 main_arg4 main_v1 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    StableHlo.reshape main_arg2 main_v2 (rfl : (.f32 : EltTy) = .f32) shapeCasts_S100000x64_S50000x128,
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_arg3 main_call0_v0 main_v3 ((fun x v => pad S100096 ![0] ![96] ![0] x v pads_S100000_S100096_0960 h_S_) : (⟨S100000, .f32⟩ : BufTy).Contents (Elt F) → (⟨S_, .f32⟩ : BufTy).Contents (Elt F) → (⟨S100096, .f32⟩ : BufTy).Contents (Elt F)),
    StableHlo.reshape main_v3 main_v4 (rfl : (.f32 : EltTy) = .f32) shapeCasts_S100096_S782x128,
    StableHlo.nullary main_c_0 (constantI S_ 32 1#32),
    StableHlo.unary main_c_0 main_v5 (broadcastInDim S8192 ![] bcast_S_S8192 : (⟨S_, .i32⟩ : BufTy).Contents (Elt F) → (⟨S8192, .i32⟩ : BufTy).Contents (Elt F)),
    StableHlo.binary main_v1 main_v5 main_v6 (Host.shrsi : (⟨S8192, .i32⟩ : BufTy).Contents (Elt F) → (⟨S8192, .i32⟩ : BufTy).Contents (Elt F) → (⟨S8192, .i32⟩ : BufTy).Contents (Elt F)),
    StableHlo.reshape main_v6 main_v7 (rfl : (.i32 : EltTy) = .i32) shapeCasts_S8192_S32x2x128,
    StableHlo.nullary main_c_1 (constantI S_ 32 7#32),
    StableHlo.unary main_c_1 main_v8 (broadcastInDim S8192 ![] bcast_S_S8192 : (⟨S_, .i32⟩ : BufTy).Contents (Elt F) → (⟨S8192, .i32⟩ : BufTy).Contents (Elt F)),
    StableHlo.binary main_v1 main_v8 main_v9 (Host.shrsi : (⟨S8192, .i32⟩ : BufTy).Contents (Elt F) → (⟨S8192, .i32⟩ : BufTy).Contents (Elt F) → (⟨S8192, .i32⟩ : BufTy).Contents (Elt F)),
    StableHlo.reshape main_v9 main_v10 (rfl : (.i32 : EltTy) = .i32) shapeCasts_S8192_S32x2x128 ]

def opsB : List (HloOp τ sig (Elt F)) :=
  [ StableHlo.unary main_v11_0 main_v12 ((extractStridedSlice S4096x128 ![0, 0] · slices_S8192x128_S4096x128_0_0) : (⟨S8192x128, .f32⟩ : BufTy).Contents (Elt F) → (⟨S4096x128, .f32⟩ : BufTy).Contents (Elt F)),
    StableHlo.unary main_v11_1 main_v13 ((extractStridedSlice S4096x128 ![0, 0] · slices_S8192x128_S4096x128_0_0) : (⟨S8192x128, .f32⟩ : BufTy).Contents (Elt F) → (⟨S4096x128, .f32⟩ : BufTy).Contents (Elt F)),
    StableHlo.unary main_v1 main_v14 ((extractStridedSlice S4096 ![0] · slices_S8192_S4096_0) : (⟨S8192, .i32⟩ : BufTy).Contents (Elt F) → (⟨S4096, .i32⟩ : BufTy).Contents (Elt F)),
    StableHlo.reshape main_v14 main_v15 (rfl : (.i32 : EltTy) = .i32) shapeCasts_S4096_S4096x1,
    StableHlo.unary main_v11_0 main_v16 ((extractStridedSlice S4096x128 ![4096, 0] · slices_S8192x128_S4096x128_4096_0) : (⟨S8192x128, .f32⟩ : BufTy).Contents (Elt F) → (⟨S4096x128, .f32⟩ : BufTy).Contents (Elt F)),
    StableHlo.unary main_v11_1 main_v17 ((extractStridedSlice S4096x128 ![4096, 0] · slices_S8192x128_S4096x128_4096_0) : (⟨S8192x128, .f32⟩ : BufTy).Contents (Elt F) → (⟨S4096x128, .f32⟩ : BufTy).Contents (Elt F)),
    StableHlo.unary main_v1 main_v18 ((extractStridedSlice S4096 ![4096] · slices_S8192_S4096_4096) : (⟨S8192, .i32⟩ : BufTy).Contents (Elt F) → (⟨S4096, .i32⟩ : BufTy).Contents (Elt F)),
    StableHlo.reshape main_v18 main_v19 (rfl : (.i32 : EltTy) = .i32) shapeCasts_S4096_S4096x1,
    StableHlo.reshape main_arg6 main_v20 (rfl : (.f32 : EltTy) = .f32) shapeCasts_S4096_S4096x1 ]

def opsC : List (HloOp τ sig (Elt F)) :=
  [ StableHlo.reshape main_v21 main_v22 (rfl : (.f32 : EltTy) = .f32) shapeCasts_S1x1_S_ ]

theorem main_eq (d : Dev nD) : main (F := F) d
    = StableHlo.seq opsA >>= fun _ => (K (F := F)).run d 0 >>= fun _ => StableHlo.seq opsB >>= fun _ =>
        Prog.lift (.customCall (SparseCore.inner (Pipeline.entry 0)) ()) >>= fun _ => StableHlo.seq opsC >>= fun _ => pure ⟨⟩ := rfl

/-! ## The buffers -/

/-- The TensorCore's unscoped references. -/
def ucRefs : Finset (DevRef τ sig) := (StableHlo.tcRefs τ sig).filter fun b => ¬ b.isScoped

theorem mem_ucRefs (b : Ref sig .tc) (h : ¬ (Proc.devRef .tc b : DevRef τ sig).isScoped) : (Proc.devRef .tc b : DevRef τ sig) ∈ ucRefs :=
  Finset.mem_filter.mpr ⟨StableHlo.devRef_mem_tcRefs b, h⟩

theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem bufs_unscoped (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem opsA_sub : ∀ op ∈ opsA (F := F), op.bufs ⊆ ucRefs :=
  List.forall_iff_forall_mem.mp ⟨bufs_unscoped _ (StableHlo.reshape_bufs_sub ..),
    bufs_unscoped _ (StableHlo.binary_bufs_sub ..),
    bufs_unscoped _ (StableHlo.reshape_bufs_sub ..),
    bufs_unscoped _ (StableHlo.nullary_bufs_sub ..),
    bufs_unscoped _ (StableHlo.unary_bufs_sub ..),
    bufs_unscoped _ (StableHlo.binary_bufs_sub ..),
    bufs_unscoped _ (StableHlo.reshape_bufs_sub ..),
    bufs_unscoped _ (StableHlo.nullary_bufs_sub ..),
    bufs_unscoped _ (StableHlo.unary_bufs_sub ..),
    bufs_unscoped _ (StableHlo.binary_bufs_sub ..),
    bufs_unscoped _ (StableHlo.reshape_bufs_sub ..),
    bufs_unscoped _ (StableHlo.nullary_bufs_sub ..),
    bufs_unscoped _ (StableHlo.unary_bufs_sub ..),
    bufs_unscoped _ (StableHlo.binary_bufs_sub ..),
    bufs_unscoped _ (StableHlo.reshape_bufs_sub ..)⟩
theorem opsA_fresh : ∀ op ∈ opsA (F := F), op.fresh = ∅ :=
  List.forall_iff_forall_mem.mp ⟨rfl, rfl, rfl, rfl, rfl, rfl, rfl, rfl, rfl, rfl, rfl, rfl, rfl, rfl, rfl⟩
theorem opsB_sub : ∀ op ∈ opsB (F := F), op.bufs ⊆ ucRefs :=
  List.forall_iff_forall_mem.mp ⟨bufs_unscoped _ (StableHlo.unary_bufs_sub ..),
    bufs_unscoped _ (StableHlo.unary_bufs_sub ..),
    bufs_unscoped _ (StableHlo.unary_bufs_sub ..),
    bufs_unscoped _ (StableHlo.reshape_bufs_sub ..),
    bufs_unscoped _ (StableHlo.unary_bufs_sub ..),
    bufs_unscoped _ (StableHlo.unary_bufs_sub ..),
    bufs_unscoped _ (StableHlo.unary_bufs_sub ..),
    bufs_unscoped _ (StableHlo.reshape_bufs_sub ..),
    bufs_unscoped _ (StableHlo.reshape_bufs_sub ..)⟩
theorem opsB_fresh : ∀ op ∈ opsB (F := F), op.fresh = ∅ :=
  List.forall_iff_forall_mem.mp ⟨rfl, rfl, rfl, rfl, rfl, rfl, rfl, rfl, rfl⟩
theorem opsC_sub : ∀ op ∈ opsC (F := F), op.bufs ⊆ ucRefs :=
  List.forall_iff_forall_mem.mp (bufs_unscoped _ (StableHlo.reshape_bufs_sub ..))
theorem opsC_fresh : ∀ op ∈ opsC (F := F), op.fresh = ∅ :=
  List.forall_iff_forall_mem.mp (show _ = _ from rfl)

variable (m : (ℓ : Loc nD τ sig) → Buf (Elt F) ℓ) (ρ : Dev nD → PrngReg)

/-- When the SparseCore call starts. -/
def VA (d : Dev nD) : Valuation τ sig (Elt F) := StableHlo.after opsA (StableHlo.launchContents m d)

/-- What the call's operands hold then. -/
def inA : CallIn F where
  wi d := VA m d (Proc.devRef .tc main_v7 : DevRef τ sig)
  bi d := VA m d (Proc.devRef .tc main_v10 : DevRef τ sig)
  wt d := VA m d (Proc.devRef .tc main_v2 : DevRef τ sig)
  bt d := VA m d (Proc.devRef .tc main_v4 : DevRef τ sig)
  ow d := VA m d (Proc.devRef .tc main_v11_0 : DevRef τ sig)
  ob d := VA m d (Proc.devRef .tc main_v11_1 : DevRef τ sig)

/-- When it has returned. -/
def VB (d : Dev nD) : Valuation τ sig (Elt F) :=
  Function.update (Function.update (VA m d) (Proc.devRef .tc main_v11_0 : DevRef τ sig) ((inA m).gw d)) (Proc.devRef .tc main_v11_1 : DevRef τ sig) ((inA m).gb d)
/-- When the TensorCore call starts. -/
def VC (d : Dev nD) : Valuation τ sig (Elt F) := StableHlo.after opsB (VB m d)
/-- When it has returned. -/
def VD (d : Dev nD) : Valuation τ sig (Elt F) :=
  Function.update (VC m d) (Proc.devRef .tc main_v21 : DevRef τ sig) (outV (fun c b => VC m c b) d)
/-- At the end. -/
def VE (d : Dev nD) : Valuation τ sig (Elt F) := StableHlo.after opsC (VD m d)

theorem VB_ne (d : Dev nD) (b : DevRef τ sig) (h0 : b ≠ (Proc.devRef .tc main_v11_0 : DevRef τ sig)) (h1 : b ≠ (Proc.devRef .tc main_v11_1 : DevRef τ sig)) : VB m d b = VA m d b :=
  (Function.update_of_ne h1 _ _).trans (Function.update_of_ne h0 _ _)
theorem VB_ow (d : Dev nD) : VB m d (Proc.devRef .tc main_v11_0 : DevRef τ sig) = (inA m).gw d :=
  (Function.update_of_ne (StableHlo.devRef_ne_of_ne (by decide)) _ _).trans (Function.update_self ..)
theorem VB_ob (d : Dev nD) : VB m d (Proc.devRef .tc main_v11_1 : DevRef τ sig) = (inA m).gb d := Function.update_self ..

/-- The call's six arrays. -/
def callRefs : Finset (DevRef τ sig) := {Proc.devRef .tc main_v7, Proc.devRef .tc main_v10, Proc.devRef .tc main_v2, Proc.devRef .tc main_v4, Proc.devRef .tc main_v11_0, Proc.devRef .tc main_v11_1}

theorem callRefs_sub : callRefs ⊆ ucRefs := by
  unfold callRefs
  exact Finset.insert_subset (mem_ucRefs main_v7 (by decide)) (Finset.insert_subset (mem_ucRefs main_v10 (by decide)) (Finset.insert_subset (mem_ucRefs main_v2 (by decide)) (Finset.insert_subset (mem_ucRefs main_v4 (by decide)) (Finset.insert_subset (mem_ucRefs main_v11_0 (by decide)) (Finset.singleton_subset_iff.mpr (mem_ucRefs main_v11_1 (by decide)))))))

theorem held_call (d : Dev nD) (W : Valuation τ sig (Elt F)) :
    (StableHlo.held (d : Thread nD τ) ucRefs W : sProp 𝕄)
      = iprop(((wiLoc d ↦{fullShare} W (Proc.devRef .tc main_v7 : DevRef τ sig)) ∗ (biLoc d ↦{fullShare} W (Proc.devRef .tc main_v10 : DevRef τ sig)) ∗ (wtLoc d ↦{fullShare} W (Proc.devRef .tc main_v2 : DevRef τ sig))
          ∗ (btLoc d ↦{fullShare} W (Proc.devRef .tc main_v4 : DevRef τ sig)) ∗ (owLoc d ↦{fullShare} W (Proc.devRef .tc main_v11_0 : DevRef τ sig)) ∗ (obLoc d ↦{fullShare} W (Proc.devRef .tc main_v11_1 : DevRef τ sig)))
        ∗ StableHlo.held (d : Thread nD τ) (ucRefs \ callRefs) W) := by
  rw [StableHlo.held_sub_split (d : Thread nD τ) callRefs_sub]
  congr 1
  unfold StableHlo.held callRefs
  rw [SparseCore.bigSep_insert' (by decide), SparseCore.bigSep_insert' (by decide), SparseCore.bigSep_insert' (by decide),
    SparseCore.bigSep_insert' (by decide), SparseCore.bigSep_insert' (by decide), bigSep_singleton]

theorem held_rest (d : Dev nD) :
    (StableHlo.held (d : Thread nD τ) (ucRefs \ callRefs) (VA m d) : sProp 𝕄) = StableHlo.held (d : Thread nD τ) (ucRefs \ callRefs) (VB m d) :=
  StableHlo.held_congr _ fun b hb => (VB_ne m d b
    (fun h => (Finset.mem_sdiff.mp hb).2 (h ▸ by simp [callRefs])) (fun h => (Finset.mem_sdiff.mp hb).2 (h ▸ by simp [callRefs]))).symm

/-! ## The ghost state -/

abbrev adm : (p : Fin 1) → (pcfgs (F := F) p).Adm := fun p => (cfgs p).toPCfg_adm

/-- The pipeline's rounds. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

abbrev pipes : Fin 1 → Pipeline.Cfg sig Λ₀ := Pipeline.pin (pcfgs (F := F)) adm

def uP : UP := initOf (Pipeline.cells (nD := nD) (τ := τ) (pipes (F := F)) cellOf_inj) (Pipeline.launchToks (nD := nD) (τ := τ) (pipes (F := F)) cellOf_inj)
def u₀ : UU := (initOf (K (F := F)).hsCells (K (F := F)).hsToks, (uP (F := F), 1))

theorem own_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

/-- What @main on device `d` is dealt: its pipeline's cells. -/
def G (d : Dev nD) : sProp 𝕄 :=
  iprop(Pipeline.cellsGhost (Ix := HIx 1) (Val := Elt F) (Name := ℕ) (U := UU) (Lvl := ℕ) (pipes (F := F)) EP 0 d
    ∗ Pipeline.toksInit (Ix := HIx 1) (Val := Elt F) (Name := ℕ) (U := UU) (Lvl := ℕ) (pipes (F := F)) EP 0 d)

theorem emps {I : Type} (s : Finset I) : (bigSep s fun _ => iprop(emp)) = (iprop(emp) : sProp 𝕄) := bigSep_emp_const s

theorem hu₀ (A : CallIn F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P A).x q thr) := by
  unfold u₀
  iintro Hu
  ihave H := (own_split (F := F) (initOf (K (F := F)).hsCells (K (F := F)).hsToks) (uP (F := F))) $$ Hu
  icases H with ⟨HH, HP⟩
  unfold uP
  imod (Pipeline.fund_ghost (pipes (F := F)) EP cellOf_inj) $$ HP with ⟨Hg, Ht⟩
  imodintro
  isplitl [HH]; · iexact HH
  isplitl [Hg Ht]
  · unfold G
    rw [bigSep_sep']
    isplitl [Hg]
    · iapply (Entails.of_eq (show (bigSep Finset.univ fun c : Dev nD => bigSep Finset.univ fun p : Fin 1 => (Pipeline.cellsGhost (pipes (F := F)) EP p c : sProp 𝕄))
        = bigSep Finset.univ fun c : Dev nD => Pipeline.cellsGhost (pipes (F := F)) EP 0 c from bigSep_congr fun c _ => bigSep_univ_of_subsingleton (0 : Fin 1)))
      iexact Hg
    · iapply (Entails.of_eq (show (bigSep Finset.univ fun c : Dev nD => bigSep Finset.univ fun p : Fin 1 => (Pipeline.toksInit (pipes (F := F)) EP p c : sProp 𝕄))
        = bigSep Finset.univ fun c : Dev nD => Pipeline.toksInit (pipes (F := F)) EP 0 c from bigSep_congr fun c _ => bigSep_univ_of_subsingleton (0 : Fin 1)))
      iexact Ht
  rw [show (bigSep Finset.univ fun thr : Thread nD τ => bigSep Finset.univ fun q : Fin 1 => (P (F := F) A).x q thr) = bigSep Finset.univ fun _ => iprop(emp) from
    bigSep_congr fun _ _ => bigSep_univ_of_subsingleton (0 : Fin 1), emps]
  iempintro

/-! ## The TensorCore's state between the calls -/

theorem Otc_one (d : Dev nD) : (K (F := F)).Otc d 1 = 0 := by
  unfold SparseCore.Cfg.Otc
  refine Finset.sum_eq_zero fun q _ => if_neg ?_
  have := q.isLt; omega

theorem waits_below (d : Dev nD) (W : Waits sig (HIx 1)) : (K (F := F)).WBelow (T d) W (8 * SparseCore.Cfg.Blocks.fst (Q := 1) (N := 1) 1) := by
  intro p _
  have h1 : (K (F := F)).lev (T d, p.1) p.2 ≤ 7 := by
    cases p.2 with
    | none => exact Nat.zero_le _
    | some q => have := (K (F := F)).lev_some_le (T d, p.1) q; have := q.isLt; omega
  refine h1.trans ?_
  decide

theorem VD_out (d : Dev nD) : VD m d (Proc.devRef .tc main_v21) = outV (fun c b => VC m c b) d := Function.update_self ..
theorem VD_ne (d : Dev nD) (b : DevRef τ sig) (h : b ≠ Proc.devRef .tc main_v21) : VD m d b = VC m d b := Function.update_of_ne h _ _

/-- The TensorCore call's region. -/
def regV : Pipeline.RegionSeg (pcfgs (F := F)) adm (pdats (fun c b => VC m c b) adm) (none : HIx 1) defs₀ 𝒱₀ (K (F := F)).L (K (F := F)).lev 0 :=
  reg (fun c b => VC m c b) adm (fun c b => VD m c b) (fun c => VD_out m c) (fun c b h => VD_ne m c _ (StableHlo.devRef_ne_of_ne h))

theorem entry_lift : (SparseCore.liftProg (Q := 1) (Prog.lift (.customCall (Pipeline.entry 0) ()) : Prog (TpuEff nD τ sig (Elt F) (ΛP (F := F)) .tc) PUnit))
    = Prog.lift (.customCall (SparseCore.inner (Pipeline.entry 0)) ()) := rfl

theorem region_step [∀ e, Nonempty (Elt F e)] (d : Dev nD) (Φ : PUnit → sProp 𝕄) :
    iprop(boundary (SparseCore.T d) ∗ StableHlo.held (d.tc : Thread nD τ) ucRefs (VC m d) ∗ (∃ W, owes (T d) (0 : CellTallies nD τ sig (HIx 1)) W)
        ∗ levAts (K (F := F)).L (K (F := F)).lev ∗ G d
        ∗ ((boundary (SparseCore.T d) ∗ StableHlo.held (d.tc : Thread nD τ) ucRefs (VD m d) ∗ ∃ W, owes (T d) (0 : CellTallies nD τ sig (HIx 1)) W) -∗ Φ ⟨⟩))
      ⊢ wp frame (wpE ((K (F := F)).defs (D (F := F))) 𝒱 (SparseCore.T d) none) Set.univ
          (Prog.lift (.customCall (SparseCore.inner (Pipeline.entry 0)) ())) Φ := by
  rw [← entry_lift]
  refine BIBase.Entails.trans ?_ ((K (F := F)).wp_liftProg (D (F := F)) 𝒱 (SparseCore.T d) Set.univ none (Prog.lift (.customCall (Pipeline.entry 0) ())) Φ)
  have h := Pipeline.RegionSeg.wp (pcfgs (F := F)) adm (pdats (fun c b => VC m c b) adm) none cellOf_inj EP defs₀ 𝒱₀ (K (F := F)).L (K (F := F)).lev
    (regV m) d none (fun _ h => nomatch h) .ret Φ
  refine BIBase.Entails.trans ?_ h
  unfold G
  iintro ⟨Hb, Hh, Ho, Hl, ⟨Hg, Ht⟩, Hk⟩
  isplitl [Hk]
  · iintro ⟨Hb, Hp⟩
    sl_step
    iapply Hk
    isplitl [Hb]; · iexact Hb
    ihave Hp' := (Entails.of_eq (show (regV m).post d = iprop(unscopedBufs d (fun b => VD m d b) ∗ ∃ W, owes (T d) (0 : CellTallies nD τ sig (HIx 1)) W) from rfl)) $$ Hp
    icases Hp' with ⟨Hu, Ho⟩
    isplitl [Hu]
    · iapply (Entails.of_eq (unscoped_held d (VD m d))); iexact Hu
    iexact Ho
  isplitl [Hb]; · iexact Hb
  isplitl [Hh Ho]
  · iapply (Entails.of_eq (show iprop(unscopedBufs d (fun b => VC m d b) ∗ ∃ W, owes (T d) (0 : CellTallies nD τ sig (HIx 1)) W) = (regV m).pre d from rfl))
    isplitl [Hh]
    · iapply (Entails.of_eq (unscoped_held d (VC m d)).symm); iexact Hh
    iexact Ho
  isplitl [Hl]; · iexact Hl
  isplitl [Hg]; · iexact Hg
  iexact Ht

abbrev FIN (d : Dev nD) : sProp 𝕄 := StableHlo.held (d.tc : Thread nD τ) ucRefs (VE m d)

theorem unscoped_launch (d : Dev nD) : (unscopedBufs d (fun b => m ((SparseCore.T d).loc b)) : sProp 𝕄) = StableHlo.held (d.tc : Thread nD τ) ucRefs (StableHlo.launchContents m d) :=
  unscoped_held d (StableHlo.launchContents m d)

/-- The SparseCore call's operands out of the buffers held, and its results back among them. -/
theorem call_in (d : Dev nD) : (StableHlo.held (d.tc : Thread nD τ) ucRefs (VA m d) : sProp 𝕄)
    ⊢ iprop((bigSep Finset.univ fun c : Fin ((K (F := F)).nCore 0) => (P (inA m)).st 0 d c) ∗ StableHlo.held (d.tc : Thread nD τ) (ucRefs \ callRefs) (VA m d)) := by
  rw [st0_eq]
  exact Entails.of_eq (held_call d (VA m d))

theorem call_out (d : Dev nD) :
    iprop((bigSep Finset.univ fun c : Fin ((K (F := F)).nCore 0) => (P (inA m)).dn 0 d c) ∗ StableHlo.held (d.tc : Thread nD τ) (ucRefs \ callRefs) (VA m d))
      ⊢ (StableHlo.held (d.tc : Thread nD τ) ucRefs (VB m d) : sProp 𝕄) := by
  rw [dn0_eq, held_call d (VB m d), held_rest, VB_ow, VB_ob, VB_ne m d (Proc.devRef .tc main_v7) (StableHlo.devRef_ne_of_ne (by decide)) (StableHlo.devRef_ne_of_ne (by decide)),
    VB_ne m d (Proc.devRef .tc main_v10) (StableHlo.devRef_ne_of_ne (by decide)) (StableHlo.devRef_ne_of_ne (by decide)),
    VB_ne m d (Proc.devRef .tc main_v2) (StableHlo.devRef_ne_of_ne (by decide)) (StableHlo.devRef_ne_of_ne (by decide)),
    VB_ne m d (Proc.devRef .tc main_v4) (StableHlo.devRef_ne_of_ne (by decide)) (StableHlo.devRef_ne_of_ne (by decide))]
  exact Entails.refl _

/-- @main on device `d`'s TensorCore. -/
theorem hmain [∀ e, Nonempty (Elt F e)] (κ : GSem nD τ sig → ℕ) (d : Dev nD) :
    iprop((K (F := F)).ctx EH (P (inA m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_launch, main_eq]
  iintro ⟨#Hctx, Hst, ⟨Hb, Hh, Hts, -⟩, HG⟩
  iapply (StableHlo.wp_seq 𝒱 none Set.univ d ucRefs _ opsA opsA_sub opsA_fresh (StableHlo.launchContents m d)) $$ [Hb Hh]
  · isplitl [Hb] <;> iassumption
  iintro ⟨Hb, Hh'⟩
  ihave Hh := (Entails.of_eq (show (StableHlo.held (d.tc : Thread nD τ) ucRefs (StableHlo.after opsA (StableHlo.launchContents m d)) : sProp 𝕄) = StableHlo.held (d.tc : Thread nD τ) ucRefs (VA m d) from rfl)) $$ Hh'
  ihave Hc := (call_in m d) $$ Hh
  icases Hc with ⟨Hin, Hrest⟩
  rw [wp_bind]
  iapply ((K (F := F)).wp_run (D (F := F)) 𝒱 (EH := EH) (P := P (inA m)) κ d 0) $$ [Hst Hin Hrest Hb Hts HG]
  isplitr; · iexact Hctx
  isplitl [Hst]; · iexact Hst
  isplitl [Hin]; · iexact Hin
  iintro ⟨Hst, Hdn⟩
  ihave Hh := (call_out m d) $$ [Hdn Hrest]
  · isplitl [Hdn] <;> iassumption
  iapply (StableHlo.wp_seq 𝒱 none Set.univ d ucRefs _ opsB opsB_sub opsB_fresh (VB m d)) $$ [Hb Hh]
  · isplitl [Hb] <;> iassumption
  iintro ⟨Hb, Hh'⟩
  ihave Hh := (Entails.of_eq (show (StableHlo.held (d.tc : Thread nD τ) ucRefs (StableHlo.after opsB (VB m d)) : sProp 𝕄) = StableHlo.held (d.tc : Thread nD τ) ucRefs (VC m d) from rfl)) $$ Hh'
  rw [wp_bind]
  unfold SparseCore.Cfg.tcSt
  icases Hst with ⟨⟨%W, %hW, Ho⟩, Hst⟩
  ihave Ho' := (Entails.of_eq (show (owes (T d) ((K (F := F)).Otc d ((0 : Fin 1).val + 1)) W : sProp 𝕄) = owes (T d) (0 : CellTallies nD τ sig (HIx 1)) W from
    congrArg (fun t => owes (T d) t W) (Otc_one d))) $$ Ho
  ihave Hl := (SparseCore.Cfg.ctx_levAts κ) $$ Hctx
  iapply (region_step m d) $$ [Hb Hh Ho' Hl HG Hst Hts]
  isplitl [Hb]; · iexact Hb
  isplitl [Hh]; · iexact Hh
  isplitl [Ho']
  · iexists W; iexact Ho'
  isplitl [Hl]; · iexact Hl
  isplitl [HG]; · iexact HG
  iintro ⟨Hb, Hh, ⟨%W', Ho⟩⟩
  iapply (StableHlo.wp_seq 𝒱 none Set.univ d ucRefs _ opsC opsC_sub opsC_fresh (VD m d)) $$ [Hb Hh]
  · isplitl [Hb] <;> iassumption
  iintro ⟨Hb, Hh'⟩
  ihave Hh := (Entails.of_eq (show (StableHlo.held (d.tc : Thread nD τ) ucRefs (StableHlo.after opsC (VD m d)) : sProp 𝕄) = StableHlo.held (d.tc : Thread nD τ) ucRefs (VE m d) from rfl)) $$ Hh'
  sl_step
  isplitl [Ho Hst]
  · isplitl [Ho]
    · iexists W'
      isplitr
      · ipureintro; exact waits_below d W'
      iapply (Entails.of_eq (show (owes (T d) (0 : CellTallies nD τ sig (HIx 1)) W' : sProp 𝕄) = owes (T d) ((K (F := F)).Otc d 1) W' from
        congrArg (fun t => owes (T d) t W') (Otc_one d).symm))
      iexact Ho
    iexact Hst
  isplitl [Hh]; · iexact Hh
  isplitl [Hb] <;> iassumption

def fq (d : Dev nD) (s' : Phys nD τ sig (Elt F)) : Prop := ∀ b ∈ ucRefs, s'.mem.mem (d, b) = VE m d b

theorem hfin (d : Dev nD) (s' : Phys nD τ sig (Elt F)) : iprop(FIN m d ∗ SI s') ⊢ (⌜fq m d s'⌝ : sProp 𝕄) := by
  iintro ⟨H, HSI⟩
  unfold FIN StableHlo.held
  ihave %h := (SI_pointsTo_bufs_agree (qs := fun _ => fullShare) ucRefs) $$ [HSI H]
  · isplitl [HSI]; · iexact HSI
    iexact H
  ipureintro
  exact h

/-- The whole program: every unscoped buffer of the TensorCore ends at `VE`, and no semaphore is left raised. -/
theorem run_main [∀ e, Nonempty (Elt F e)] (hA : (inA m).Ok) :
    θ_run (Cert.KernelIdeal.defs (F := F)) (Cert.KernelIdeal.threads (F := F)) ⟨m, fun _ => 0, ρ⟩
      (fun r => (∀ d : Dev nD, ∀ b ∈ ucRefs, r.2.mem (d, b) = VE m d b) ∧ r.2.sem = fun _ => 0) :=
  SparseCore.Cfg.θ_run_sc_quiescent (K := K (F := F)) (D := D (F := F)) (𝒱 := 𝒱) (EH := EH) (P := P (inA m)) (A := ∅) scFacts v₀
    (fun q hq => match q with | 0 => nomatch hq)
    (fun q _ => match q with | 0 => tileObl (inA m) hA)
    (fun q _ => match q with | 0 => SparseCore.Cfg.VecSplit.of_plain (vecSplit (inA m)))
    m ρ main G (FIN m) (u₀ (F := F)) (sep_elim_left.trans (hu₀ (inA m))) (hmain m ρ) (fq m) (hfin m) _ (fun _ h hz => ⟨h, hz⟩)

end Cert.KernelIdeal.Run

end
-- ==== Proof.KernelIdealVals.lean ====
/-
  What the buffers hold: the arguments at the end are as at the start, the operands of the SparseCore call and of the
  TensorCore call are the host's terms of the arguments, and the program's run stated over them.
-/
module

public import proofs.«01_k».proof.Proof.KernelIdealMain

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

def wrA : List (Ref sig .tc) := [main_v0, main_v1, main_v2, main_c, main_call0_v0, main_v3, main_v4, main_c_0, main_v5, main_v6, main_v7, main_c_1, main_v8, main_v9, main_v10]
theorem opsA_writes : (opsA (F := F)).Forall fun op => op.writes ⊆ (wrA.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

def wrB : List (Ref sig .tc) := [main_v12, main_v13, main_v14, main_v15, main_v16, main_v17, main_v18, main_v19, main_v20]
theorem opsB_writes : (opsB (F := F)).Forall fun op => op.writes ⊆ (wrB.map (Proc.devRef (τ := τ) .tc)).toFinset :=
  ⟨Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide))),
    Finset.singleton_subset_iff.mpr (List.mem_toFinset.mpr (List.mem_map_of_mem (by decide)))⟩

def wrC : List (Ref sig .tc) := [main_v22]
theorem opsC_writes : (opsC (F := F)).Forall fun op => op.writes ⊆ (wrC.map (Proc.devRef (τ := τ) .tc)).toFinset :=
  Finset.singleton_subset_iff.mpr (List.mem_toFinset.mpr (List.mem_map_of_mem (by decide)))

variable (m : (ℓ : Loc nD τ sig) → Buf (Elt F) ℓ) (ρ : Dev nD → PrngReg)

theorem VA_of (d : Dev nD) (b : Ref sig .tc) (h : b ∉ wrA) : VA m d (Proc.devRef .tc b) = m ((d : Thread nD τ).loc b) :=
  StableHlo.after_of_writes_sub opsA _ opsA_writes h
theorem VB_of (d : Dev nD) (b : Ref sig .tc) (h0 : b ≠ main_v11_0) (h1 : b ≠ main_v11_1) : VB m d (Proc.devRef .tc b) = VA m d (Proc.devRef .tc b) :=
  VB_ne m d _ (StableHlo.devRef_ne_of_ne h0) (StableHlo.devRef_ne_of_ne h1)
theorem VC_of (d : Dev nD) (b : Ref sig .tc) (h : b ∉ wrB) : VC m d (Proc.devRef .tc b) = VB m d (Proc.devRef .tc b) :=
  StableHlo.after_of_writes_sub opsB _ opsB_writes h
theorem VE_of (d : Dev nD) (b : Ref sig .tc) (h : b ∉ wrC) : VE m d (Proc.devRef .tc b) = VD m d (Proc.devRef .tc b) :=
  StableHlo.after_of_writes_sub opsC _ opsC_writes h

/-- A buffer nothing writes before the TensorCore call. -/
theorem VC_arg (d : Dev nD) (b : Ref sig .tc) (h : b ∉ wrA) (h0 : b ≠ main_v11_0) (h1 : b ≠ main_v11_1) (h' : b ∉ wrB) :
    VC m d (Proc.devRef .tc b) = m ((d : Thread nD τ).loc b) :=
  (VC_of m d b h').trans ((VB_of m d b h0 h1).trans (VA_of m d b h))

/-- A buffer nothing writes. -/
theorem VE_arg (d : Dev nD) (b : Ref sig .tc) (h : b ∉ wrA) (h0 : b ≠ main_v11_0) (h1 : b ≠ main_v11_1) (h' : b ∉ wrB)
    (h2 : b ≠ main_v21) (h3 : b ∉ wrC) : VE m d (Proc.devRef .tc b) = m ((d : Thread nD τ).loc b) :=
  (VE_of m d b h3).trans ((VD_ne m d _ (StableHlo.devRef_ne_of_ne h2)).trans (VC_arg m d b h h0 h1 h'))

/-- The ids: the labels, then the sampled candidates. -/
def ids (d : Dev nD) : IVec S8192 32 :=
  concatenate S8192 0 [⟨S4096, shapeCast S4096 (m ((d : Thread nD τ).loc main_arg1)) shapeCasts_S4096x1_S4096⟩,
    ⟨S4096, m ((d : Thread nD τ).loc main_arg4)⟩] concatenates_S4096_S4096_S8192_d0

theorem VA_ids (d : Dev nD) : VA m d (Proc.devRef .tc main_v1 : DevRef τ sig) = ids m d := by
  unfold VA opsA; after_results_simp; rfl
theorem A_wi (d : Dev nD) : (inA m).wi d = shapeCast S32x2x128 (Host.shrsi (ids m d) (broadcastInDim S8192 ![] bcast_S_S8192 (constantI S_ 32 1#32))) shapeCasts_S8192_S32x2x128 := by
  show VA m d (Proc.devRef .tc main_v7 : DevRef τ sig) = _
  unfold VA opsA; after_results_simp; rfl
theorem A_bi (d : Dev nD) : (inA m).bi d = shapeCast S32x2x128 (Host.shrsi (ids m d) (broadcastInDim S8192 ![] bcast_S_S8192 (constantI S_ 32 7#32))) shapeCasts_S8192_S32x2x128 := by
  show VA m d (Proc.devRef .tc main_v10 : DevRef τ sig) = _
  unfold VA opsA; after_results_simp; rfl
theorem A_wt (d : Dev nD) : (inA m).wt d = shapeCast S50000x128 (m ((d : Thread nD τ).loc main_arg2)) shapeCasts_S100000x64_S50000x128 := by
  show VA m d (Proc.devRef .tc main_v2 : DevRef τ sig) = _
  unfold VA opsA; after_results_simp; rfl
theorem A_bt (d : Dev nD) : (inA m).bt d = shapeCast S782x128 (pad S100096 ![0] ![96] ![0] (m ((d : Thread nD τ).loc main_arg3)) (sitofp .f32 (constantI S_ 32 0#32)) pads_S100000_S100096_0960 h_S_) shapeCasts_S100096_S782x128 := by
  show VA m d (Proc.devRef .tc main_v4 : DevRef τ sig) = _
  unfold VA opsA; after_results_simp; rfl

theorem VC_v12 (d : Dev nD) : VC m d (Proc.devRef .tc main_v12 : DevRef τ sig) = extractStridedSlice S4096x128 ![0, 0] ((inA m).gw d) slices_S8192x128_S4096x128_0_0 := by
  unfold VC opsB; after_results_simp; rw [VB_ow]
theorem VC_v13 (d : Dev nD) : VC m d (Proc.devRef .tc main_v13 : DevRef τ sig) = extractStridedSlice S4096x128 ![0, 0] ((inA m).gb d) slices_S8192x128_S4096x128_0_0 := by
  unfold VC opsB; after_results_simp; rw [VB_ob]
theorem VC_v15 (d : Dev nD) : VC m d (Proc.devRef .tc main_v15 : DevRef τ sig) = shapeCast S4096x1 (extractStridedSlice S4096 ![0] (ids m d) slices_S8192_S4096_0) shapeCasts_S4096_S4096x1 := by
  unfold VC opsB; after_results_simp; rw [VB_of m d main_v1 (by decide) (by decide), VA_ids]; rfl
theorem VC_v16 (d : Dev nD) : VC m d (Proc.devRef .tc main_v16 : DevRef τ sig) = extractStridedSlice S4096x128 ![4096, 0] ((inA m).gw d) slices_S8192x128_S4096x128_4096_0 := by
  unfold VC opsB; after_results_simp; rw [VB_ow]
theorem VC_v17 (d : Dev nD) : VC m d (Proc.devRef .tc main_v17 : DevRef τ sig) = extractStridedSlice S4096x128 ![4096, 0] ((inA m).gb d) slices_S8192x128_S4096x128_4096_0 := by
  unfold VC opsB; after_results_simp; rw [VB_ob]
theorem VC_v19 (d : Dev nD) : VC m d (Proc.devRef .tc main_v19 : DevRef τ sig) = shapeCast S4096x1 (extractStridedSlice S4096 ![4096] (ids m d) slices_S8192_S4096_4096) shapeCasts_S4096_S4096x1 := by
  unfold VC opsB; after_results_simp; rw [VB_of m d main_v1 (by decide) (by decide), VA_ids]; rfl
theorem VC_v20 (d : Dev nD) : VC m d (Proc.devRef .tc main_v20 : DevRef τ sig) = shapeCast S4096x1 (m ((d : Thread nD τ).loc main_arg6)) shapeCasts_S4096_S4096x1 := by
  unfold VC opsB; after_results_simp; rw [VB_of m d main_arg6 (by decide) (by decide), VA_of m d main_arg6 (by decide)]; rfl
theorem VE_out (d : Dev nD) : VE m d (Proc.devRef .tc main_v22 : DevRef τ sig) = shapeCast S_ (outV (fun c b => VC m c b) d) shapeCasts_S1x1_S_ := by
  unfold VE opsC; after_results_simp; rw [VD_out]; rfl

/-- The run, stated over the arguments and the result. -/
theorem run_args [∀ e, Nonempty (Elt F e)] (hA : (inA m).Ok) :
    θ_run (Cert.KernelIdeal.defs (F := F)) (Cert.KernelIdeal.threads (F := F)) ⟨m, fun _ => 0, ρ⟩
      (fun r => (∀ d : Dev nD, r.2.mem ((d.tc : Thread nD τ).loc main_v22) = shapeCast S_ (outV (fun c b => VC m c b) d) shapeCasts_S1x1_S_
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6))
        ∧ r.2.sem = fun _ => 0) :=
  (θ_run _ _ _).mono (fun _ h => ⟨fun d => ⟨(h.1 d _ (mem_ucRefs main_v22 (by decide))).trans (VE_out m d),
    (h.1 d _ (mem_ucRefs main_arg0 (by decide))).trans (VE_arg m d main_arg0 (by decide) (by decide) (by decide) (by decide) (by decide) (by decide)),
    (h.1 d _ (mem_ucRefs main_arg1 (by decide))).trans (VE_arg m d main_arg1 (by decide) (by decide) (by decide) (by decide) (by decide) (by decide)),
    (h.1 d _ (mem_ucRefs main_arg2 (by decide))).trans (VE_arg m d main_arg2 (by decide) (by decide) (by decide) (by decide) (by decide) (by decide)),
    (h.1 d _ (mem_ucRefs main_arg3 (by decide))).trans (VE_arg m d main_arg3 (by decide) (by decide) (by decide) (by decide) (by decide) (by decide)),
    (h.1 d _ (mem_ucRefs main_arg4 (by decide))).trans (VE_arg m d main_arg4 (by decide) (by decide) (by decide) (by decide) (by decide) (by decide)),
    (h.1 d _ (mem_ucRefs main_arg5 (by decide))).trans (VE_arg m d main_arg5 (by decide) (by decide) (by decide) (by decide) (by decide) (by decide)),
    (h.1 d _ (mem_ucRefs main_arg6 (by decide))).trans (VE_arg m d main_arg6 (by decide) (by decide) (by decide) (by decide) (by decide) (by decide))⟩, h.2⟩)
    (run_main m ρ hA)

/-! ## The ids in range -/

/-- Every id names a row of the table. -/
def IdsOk : Prop := ∀ (d : Dev nD) (r : Fin 8192), (ids m d (ix1 r)).toNat < 100000

theorem shr_word (v : BitVec 32) (k : ℕ) (hk : k < 32) (h : v.toNat < 2147483648) : (IntOp.shrsi .host v (BitVec.ofNat 32 k)).toNat = v.toNat / 2 ^ k := by
  have hk' : (BitVec.ofNat 32 k).toNat = k := by rw [BitVec.toNat_ofNat]; exact Nat.mod_eq_of_lt (by omega)
  unfold IntOp.shrsi
  rw [if_pos (by rw [hk']; exact hk)]
  have hm : v.msb = false := by rw [BitVec.msb_eq_false_iff_two_mul_lt]; omega
  rw [BitVec.sshiftRight', BitVec.sshiftRight_eq_of_msb_false hm, hk', BitVec.toNat_ushiftRight, Nat.shiftRight_eq_div_pow]

end Cert.KernelIdeal.Run

end
-- ==== Proof.KernelIdealIds.lean ====
/-
  The ids word by word, and the bounds the SparseCore call asks of its index arrays.
-/
module

public import proofs.«01_k».proof.Proof.KernelIdealVals
public import proofs.«01_k».proof.Proof.IdRange
public import Idealize.ShloMosaic.Lib.Pointwise

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ)

theorem ids_apply (d : Dev nD) (r : Fin 8192) :
    ids m d (ix1 r) = if h : r.val < 4096 then (m ((d : Thread nD τ).loc main_arg1) : IVec S4096x1 32) (ix2 ⟨r.val, h⟩ 0)
      else (m ((d : Thread nD τ).loc main_arg4) : IVec S4096 32) (ix1 ⟨r.val - 4096, by omega⟩) := by
  unfold ids
  generalize (m ((d : Thread nD τ).loc main_arg1) : IVec S4096x1 32) = a
  generalize (m ((d : Thread nD τ).loc main_arg4) : IVec S4096 32) = b
  pointwise

theorem idsOk (d : Dev nD) (h1 : ∀ i, ((m ((d : Thread nD τ).loc main_arg1) : IVec S4096x1 32) i).toNat < 100000)
    (h4 : ∀ i, ((m ((d : Thread nD τ).loc main_arg4) : IVec S4096 32) i).toNat < 100000) (i : S8192.Idx) : (ids m d i).toNat < 100000 := by
  obtain ⟨r, rfl⟩ : ∃ r : Fin 8192, i = ix1 r := ⟨i 0, eq_ix1 i⟩
  rw [ids_apply]
  split
  · exact h1 _
  · exact h4 _

theorem A_ok (h : ∀ (d : Dev nD) i, (ids m d i).toNat < 100000) : (inA m).Ok where
  w d x := by
    rw [A_wi]
    show (IntOp.shrsi .host (ids m d _) (BitVec.ofNat 32 1)).toNat < 50000
    rw [shr_word _ 1 (by decide) (by have := h d (Shape.reshapeEquiv shapeCasts_S8192_S32x2x128 x); omega)]
    have := h d (Shape.reshapeEquiv shapeCasts_S8192_S32x2x128 x); omega
  b d x := by
    rw [A_bi]
    show (IntOp.shrsi .host (ids m d _) (BitVec.ofNat 32 7)).toNat < 782
    rw [shr_word _ 7 (by decide) (by have := h d (Shape.reshapeEquiv shapeCasts_S8192_S32x2x128 x); omega)]
    have := h d (Shape.reshapeEquiv shapeCasts_S8192_S32x2x128 x); omega

end Cert.KernelIdeal.Run

end
-- ==== Proof.Frames.lean ====
/-
  The frames of the two readings of the kernel and of the reference, and what the named constant denotes.
-/
module

public import proofs.«01_k».proof.Defs
public import proofs.«01_k».proof.Proof.KernelIds
public import proofs.«01_k».proof.Proof.KernelIdealIds
public import proofs.«01_k».proof.Proof.Gen.ReferenceIdeal.Run
public import Idealize.ShloMosaic.Lib.Quiescent

@[expose] public section

noncomputable section

namespace Cert.Proof

open Idealize.ShloMosaic Idealize.SL.Sem

instance (e : EltTy) : Nonempty (Elt Bits e) := ⟨Inhabited.default⟩
instance (e : EltTy) : Nonempty (Elt Ideal e) := ⟨Inhabited.default⟩

/-- The kernel's ids lie in the table. -/
theorem ok_p (m : (ℓ : Loc Cert.Kernel.nD Cert.Kernel.τ Cert.Kernel.sig) → Buf (Elt Bits) ℓ) (h : Pre_Kernel m) : (Cert.Kernel.Run.inA m).Ok :=
  Cert.Kernel.Run.A_ok m fun d => Cert.Kernel.Run.idsOk m d (Cert.IdRange.bounds _ _ _ _ _ _ _ (h d)).1 (Cert.IdRange.bounds _ _ _ _ _ _ _ (h d)).2

theorem ok_pi (m : (ℓ : Loc Cert.KernelIdeal.nD Cert.KernelIdeal.τ Cert.KernelIdeal.sig) → Buf (Elt Ideal) ℓ) (h : Pre_KernelIdeal m) : (Cert.KernelIdeal.Run.inA m).Ok :=
  Cert.KernelIdeal.Run.A_ok m fun d => Cert.KernelIdeal.Run.idsOk m d (Cert.IdRange.bounds _ _ _ _ _ _ _ (h d)).1 (Cert.IdRange.bounds _ _ _ _ _ _ _ (h d)).2

theorem frame_p : Cert.quiescent_Kernel := fun m g h =>
  (θ_run _ _ _).mono (fun _ h => ⟨fun c => (h.1 c).2, h.2⟩) (Cert.Kernel.Run.run_args m g (ok_p m h))

theorem frame_pi : Cert.quiescent_KernelIdeal := fun m g h =>
  (θ_run _ _ _).mono (fun _ h => ⟨fun c => (h.1 c).2, h.2⟩) (Cert.KernelIdeal.Run.run_args m g (ok_pi m h))

theorem frame_ri : Cert.quiescent_ReferenceIdeal := fun m g _ =>
  (θ_run _ _ _).mono (fun r h => ⟨fun c => (h c).2, sem_eq_zero_of_no_sems (by decide) r.2⟩) (Cert.ReferenceIdeal.Value.run (F := Ideal) m g)

theorem frame_ri_pre : Cert.quiescent_ReferenceIdeal_pre_ids_in_range := fun m g _ => frame_ri m g trivial

theorem preserves : Cert.preserves_Kernel_KernelIdeal :=
  IdealRules.named_const.statement Cert.KernelIdeal.κ "scale" .f32 0x337FF001#32 ((16781312⁻¹ : ℝ) : EReal) rfl

end Cert.Proof

end
-- ==== Proof.RefParts.lean ====
/-
  The reference's result by its parts: the rows it takes, the two logits, the labels, the loss at one entry and the mean.
-/
module

public import proofs.«01_k».proof.Proof.Gen.ReferenceIdeal.Run

@[expose] public section

set_option maxRecDepth 16384

noncomputable section

namespace Cert.ReferenceIdeal.Parts

open Cert.ReferenceIdeal Cert.ReferenceIdeal.Gen
open Idealize.ShloMosaic Idealize.ShloMosaic.TcCoe Idealize.SL.Sem

variable {F : FTy → Type} [FloatOps F]

/-- All ids: the labels, then the sampled candidates. -/
def lid (a1 : IVec S4096x1 32) (a4 : IVec S4096 32) : IVec S8192 32 :=
  concatenate S8192 0 [⟨S4096, (shapeCast _ a1 shapeCasts_S4096x1_S4096)⟩, ⟨S4096, a4⟩] concatenates_S4096_S4096_S8192_d0

/-- The ids as the take reads them: a negative one counts from the end. -/
def col (i : IVec S8192 32) : IVec S8192x1 32 :=
  broadcastInDim S8192x1 ![0] bcast_S8192_S8192x1_0 (select (cmpi .slt i (broadcastInDim S8192 ![] bcast_S_S8192 (constantI S_ 32 0#32)))
    (addi i (broadcastInDim S8192 ![] bcast_S_S8192 (constantI S_ 32 100000#32))) i)

/-- Whether an id lies in the table. -/
def inb (k : IVec S8192x1 32) : IVec S8192 1 :=
  Host.reduce IntOp.andi (andi (cmpi .sge k (broadcastInDim S8192x1 ![] bcast_S_S8192x1 (constantI S_ 32 0#32)))
    (cmpi .sle k (broadcastInDim S8192x1 ![0, 1] bcast_S1x1_S8192x1_0_1 (broadcastInDim S1x1 ![1] bcast_S1_S1x1_1 (constantI S1 32 99999#32)))))
    (constantI S_ 1 1#1) reducesTo_S8192x1_S8192_d1 h_S_

def takeW (a2 : FVec F S100000x64 .f32) (i : IVec S8192 32) : FVec F S8192x64 .f32 :=
  select (broadcastInDim S8192x64 ![0] bcast_S8192_S8192x64_0 (inb (col i))) (Host.gather gather_S100000x64_S8192x1_S8192x64_1_0_n_n_0_1_164 a2 (col i))
    (broadcastInDim S8192x64 ![] bcast_S_S8192x64 (constant S_ .f32 0x7FC00000#32))

def takeB (a3 : FVec F S100000 .f32) (i : IVec S8192 32) : FVec F S8192 .f32 :=
  select (inb (col i)) (Host.gather gather_S100000_S8192x1_S8192_n_0_n_n_0_1_1 a3 (col i))
    (broadcastInDim S8192 ![] bcast_S_S8192 (constant S_ .f32 0x7FC00000#32))

/-- The logits of the true labels. -/
def tl (a0 : FVec F S4096x64 .f32) (w : FVec F S8192x64 .f32) (b : FVec F S8192 .f32) (a5 : FVec F S4096x1 .f32) : FVec F S4096x1 .f32 :=
  subf (addf (shapeCast _ (Host.reduceAdd (shapeCast _ (mulf (broadcastInDim S4096x1x64 ![0, 2] bcast_S4096x64_S4096x1x64_0_2 a0)
    (shapeCast _ (extractStridedSlice S4096x64 ![0, 0] w slices_S8192x64_S4096x64_0_0) shapeCasts_S4096x64_S4096x1x64)) shapeCasts_S4096x1x64_S4096x64)
    (constant S_ .f32 0x00000000#32) reducesTo_S4096x64_S4096_d1 h_S_) shapeCasts_S4096_S4096x1)
    (shapeCast _ (extractStridedSlice S4096 ![0] b slices_S8192_S4096_0) shapeCasts_S4096_S4096x1)) (Host.log a5)

/-- The logits of the sampled candidates. -/
def sl (a0 : FVec F S4096x64 .f32) (w : FVec F S8192x64 .f32) (b : FVec F S8192 .f32) (a6 : FVec F S4096 .f32) : FVec F S4096x4096 .f32 :=
  subf (addf (Host.dotGeneral dot_S4096x64_S64x4096_S4096x4096_1_0_0_1_n_n none a0 (transpose S64x4096 [1, 0]
    (extractStridedSlice S4096x64 ![4096, 0] w slices_S8192x64_S4096x64_4096_0) transposes_S4096x64_S64x4096_1_0))
    (broadcastInDim S4096x4096 ![0, 1] bcast_S1x4096_S4096x4096_0_1 (broadcastInDim S1x4096 ![1] bcast_S4096_S1x4096_1
      (extractStridedSlice S4096 ![4096] b slices_S8192_S4096_4096))))
    (broadcastInDim S4096x4096 ![0, 1] bcast_S1x4096_S4096x4096_0_1 (broadcastInDim S1x4096 ![1] bcast_S4096_S1x4096_1 (Host.log a6)))

/-- All logits: the true one in column 0. -/
def lg (t : FVec F S4096x1 .f32) (s : FVec F S4096x4096 .f32) : FVec F S4096x4097 .f32 :=
  concatenate S4096x4097 1 [⟨S4096x1, t⟩, ⟨S4096x4096, s⟩] concatenates_S4096x1_S4096x4096_S4096x4097_d1

/-- The labels: one in column 0, zero elsewhere. -/
def lb : FVec F S4096x4097 .f32 :=
  concatenate S4096x4097 1 [⟨S4096x1, (Host.divf (broadcastInDim S4096x1 ![] bcast_S_S4096x1 (constant S_ .f32 0x3F800000#32))
      (broadcastInDim S4096x1 ![] bcast_S_S4096x1 (constant S_ .f32 0x3F800000#32)))⟩,
    ⟨S4096x4096, (broadcastInDim S4096x4096 ![] bcast_S_S4096x4096 (constant S_ .f32 0x00000000#32))⟩] concatenates_S4096x1_S4096x4096_S4096x4097_d1

/-- The probabilities. -/
def pr (x : FVec F S4096x4097 .f32) : FVec F S4096x4097 .f32 :=
  Host.divf (broadcastInDim S4096x4097 ![] bcast_S_S4096x4097 (constant S_ .f32 0x3F800000#32))
    (addf (broadcastInDim S4096x4097 ![] bcast_S_S4096x4097 (constant S_ .f32 0x3F800000#32)) (Host.exp (Host.negf x)))

/-- The log of a probability, clipped. -/
def lc (p : FVec F S4096x4097 .f32) : FVec F S4096x4097 .f32 :=
  Host.log (minimumf (broadcastInDim S4096x4097 ![] bcast_S_S4096x4097 (id (constant S_ .f32 0x3F800000#32)))
    (maximumf (broadcastInDim S4096x4097 ![] bcast_S_S4096x4097 (id (constant S_ .f32 0x2B8CBCCC#32))) p))

/-- The loss at every entry. -/
def bce (l p : FVec F S4096x4097 .f32) : FVec F S4096x4097 .f32 :=
  Host.negf (addf (mulf l (lc p)) (mulf (subf (broadcastInDim S4096x4097 ![] bcast_S_S4096x4097 (constant S_ .f32 0x3F800000#32)) l)
    (lc (subf (broadcastInDim S4096x4097 ![] bcast_S_S4096x4097 (constant S_ .f32 0x3F800000#32)) p))))

/-- The mean over all entries. -/
def mean (x : FVec F S4096x4097 .f32) : FVec F S_ .f32 :=
  Host.divf (Host.reduceAdd x (constant S_ .f32 0x00000000#32) reducesTo_S4096x4097_S_d0_1 h_S_) (constant S_ .f32 0x4B800800#32)

/-- The reference's result of its arguments. -/
def loss (a0 : FVec F S4096x64 .f32) (a1 : IVec S4096x1 32) (a2 : FVec F S100000x64 .f32) (a3 : FVec F S100000 .f32) (a4 : IVec S4096 32)
    (a5 : FVec F S4096x1 .f32) (a6 : FVec F S4096 .f32) : FVec F S_ .f32 :=
  mean (bce lb (pr (lg (tl a0 (takeW a2 (lid a1 a4)) (takeB a3 (lid a1 a4)) a5) (sl a0 (takeW a2 (lid a1 a4)) (takeB a3 (lid a1 a4)) a6))))

theorem res_eq (m : (ℓ : Loc nD τ sig) → Buf (Elt F) ℓ) (c : Dev nD) :
    Value.res_main_v52 m c = loss (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Value.res_main_v52
  rfl

end Cert.ReferenceIdeal.Parts

end
-- ==== Proof.RefTake.lean ====
/-
  The rows that the reference takes, at ids that lie in the table: the table's rows.
-/
module

public import proofs.«01_k».proof.Proof.RefParts
public import Idealize.ShloMosaic.Lib.Routing.OpsSearch
public import Idealize.ShloMosaic.Lib.Routing.Ops
public import Idealize.ShloMosaic.Lib.ReduceAll
public import Idealize.ShloMosaic.Lib.Pointwise
public import Idealize.ShloMosaic.Lib.Pointwise.IndexBridge

@[expose] public section

set_option maxRecDepth 16384

noncomputable section

namespace Cert.ReferenceIdeal.Parts

open Cert.ReferenceIdeal Cert.ReferenceIdeal.Gen
open Idealize.ShloMosaic

variable {F : FTy → Type} [FloatOps F]

/-- What the comparisons say of a word below the table's length. -/
theorem word_facts (v : BitVec 32) (h : v.toNat < 100000) :
    IntOp.cmpi .slt v 0#32 = 0#1 ∧ IntOp.cmpi .sge v 0#32 = 1#1 ∧ IntOp.cmpi .sle v 99999#32 = 1#1 := by
  have one (p : Bool) : (BitVec.ofBool p = 1#1) ↔ p = true := by cases p <;> decide
  have zero (p : Bool) : (BitVec.ofBool p = 0#1) ↔ p = false := by cases p <;> decide
  simp only [IntOp.cmpi, one, zero, BitVec.sle_eq_decide, BitVec.slt_eq_decide, decide_eq_false_iff_not,
    decide_eq_true_eq, BitVec.toInt_eq_toNat_cond, BitVec.toNat_ofNat, Nat.reducePow, Nat.reduceMod]
  omega

variable {i : IVec S8192 32} (hi : ∀ x, (i x).toNat < 100000)

include hi in
/-- An id in the table is read as it stands. -/
theorem col_apply (p : Fin 8192) (q : Fin 1) : col i (ix2 p q) = i (ix1 p) := by
  have e : col i (ix2 p q) = Scalar.select (IntOp.cmpi .slt (i (ix1 p)) 0#32) (IntOp.addi (i (ix1 p)) 100000#32) (i (ix1 p)) := by
    pointwise [col]
  rw [e, (word_facts _ (hi (ix1 p))).1]
  rfl

include hi in
theorem inb_apply (p : Fin 8192) : inb (col i) (ix1 p) = 1#1 := by
  unfold inb
  refine Host.reduce_andi_one _ _ _ _ _ rfl fun x => ?_
  obtain ⟨a, b, rfl⟩ : ∃ (a : Fin 8192) (b : Fin 1), x = ix2 a b := ⟨x 0, x 1, eq_ix2 x⟩
  have h := word_facts _ (hi (ix1 a))
  show IntOp.andi (IntOp.cmpi .sge (col i (ix2 a b)) 0#32) (IntOp.cmpi .sle (col i (ix2 a b)) 99999#32) = 1#1
  rw [col_apply hi, h.2.1, h.2.2]
  rfl

include hi in
theorem takeW_apply (w : FVec F S100000x64 .f32) (p : Fin 8192) (k : Fin 64) : takeW w i (ix2 p k) = w (ix2 ⟨(i (ix1 p)).toNat, hi _⟩ k) := by
  have e : takeW w i (ix2 p k) = Scalar.select (inb (col i) (ix1 p)) (Host.gather gather_S100000x64_S8192x1_S8192x64_1_0_n_n_0_1_164 w (col i) (ix2 p k))
      (FloatOps.ofBits .f32 0x7FC00000#32) := by
    pointwise [takeW]
  rw [e, inb_apply hi]
  show Host.gather _ _ _ _ = _
  rw [ix2_eq_valueIdx, ix2_eq_valueIdx]
  exact Routing.gather_row _ rfl rfl rfl rfl rfl w (col i) p k ⟨(i (ix1 p)).toNat, hi _⟩
    (by rw [← ix2_eq_valueIdx, col_apply hi]; exact (BitVec.ofNat_toNat 32 _).trans (BitVec.setWidth_eq _) |>.symm) (by decide)

include hi in
theorem takeB_apply (b : FVec F S100000 .f32) (p : Fin 8192) : takeB b i (ix1 p) = b (ix1 ⟨(i (ix1 p)).toNat, hi _⟩) := by
  have e : takeB b i (ix1 p) = Scalar.select (inb (col i) (ix1 p)) (Host.gather gather_S100000_S8192x1_S8192_n_0_n_n_0_1_1 b (col i) (ix1 p))
      (FloatOps.ofBits .f32 0x7FC00000#32) := by
    pointwise [takeB]
  rw [e, inb_apply hi]
  show Host.gather _ _ _ _ = _
  rw [ix1_eq_valueIdx, ix1_eq_valueIdx]
  exact Routing.take_ap _ rfl rfl rfl rfl b (col i) p (hi (ix1 p)) (by have := hi (ix1 p); omega)
    (by rw [← ix2_eq_valueIdx, col_apply hi]; exact (BitVec.ofNat_toNat 32 _).trans (BitVec.setWidth_eq _) |>.symm)

end Cert.ReferenceIdeal.Parts

end
-- ==== Proof.LossMath.lean ====
/-
  The loss as plain arithmetic over the extended reals: a row's logits, the two terms of the cross entropy, their total,
  and the two laws of sums by which the kernel's order of adding gives the same.
-/
module

public import Mathlib.Data.EReal.Operations
public import Idealize.ShloMosaic.PureOps.Ideal

@[expose] public section

noncomputable section

namespace Cert.Loss

open Idealize.ShloMosaic

/-- A negated logarithm, its argument held between the smallest probability and one. -/
def nl (x : EReal) : EReal := - Ideal.log (min 1 (max (Ideal.ofBits .f32 0x2B8CBCCC#32) x))

/-- The logistic function as a quotient. -/
def sg (x : EReal) : EReal := Ideal.div 1 (1 + Ideal.exp (-x))

variable (x : Fin 4096 → Fin 64 → EReal) (w : Fin 100000 → Fin 64 → EReal) (b : Fin 100000 → EReal) (i : Fin 8192 → Fin 100000) (e5 e6 : Fin 4096 → EReal)

/-- Row `r`'s logit at its own label. -/
def tv (r : Fin 4096) : EReal := (∑ k : Fin 64, x r k * w (i ⟨r.val, by omega⟩) k) + b (i ⟨r.val, by omega⟩) - Ideal.log (e5 r)

/-- Row `r`'s logit at sampled candidate `s`. -/
def sv (r s : Fin 4096) : EReal := (∑ k : Fin 64, x r k * w (i ⟨4096 + s.val, by omega⟩) k) + b (i ⟨4096 + s.val, by omega⟩) - Ideal.log (e6 s)

/-- The cross entropy's total. -/
def total : EReal := ∑ r : Fin 4096, (nl (sg (tv x w b i e5 r)) + ∑ s : Fin 4096, nl (1 - sg (sv x w b i e6 r s)))

/-- Rows added block by block are rows added in order. -/
theorem sum_blocks (f : Fin 4096 → EReal) : (∑ t : Fin 16, ∑ r : Fin 256, f ⟨256 * t.val + r.val, by omega⟩) = ∑ r : Fin 4096, f r := by
  rw [← Fintype.sum_prod_type' (fun (t : Fin 16) (r : Fin 256) => f ⟨256 * t.val + r.val, by omega⟩)]
  refine Fintype.sum_equiv (finProdFinEquiv (m := 16) (n := 256)) _ _ fun p => congrArg f (Fin.ext ?_)
  show 256 * p.1.val + p.2.val = p.2.val + 256 * p.1.val
  omega

/-- A running total of scaled terms is the scaled total. -/
theorem sum_scaled (c : EReal) (h0 : 0 ≤ c) (ht : c ≠ ⊤) (p : ℕ → EReal) (n : ℕ) :
    (∑ k ∈ Finset.range n, p k * c) = (∑ k ∈ Finset.range n, p k) * c := by
  induction n with
  | zero => simp
  | succ n ih => rw [Finset.sum_range_succ, Finset.sum_range_succ, ih, EReal.right_distrib_of_nonneg_of_ne_top h0 ht]

end Cert.Loss

end
-- ==== Proof.RefRead.lean ====
/-
  The reference's loss at the ideal instance, as sums over the rows and columns.
-/
module

public import proofs.«01_k».proof.Proof.RefTake
public import proofs.«01_k».proof.Proof.LossMath
public import Idealize.ShloMosaic.Lib.Pointwise

@[expose] public section

set_option maxRecDepth 16384

noncomputable section

namespace Cert.ReferenceIdeal.Parts

open Cert.ReferenceIdeal Cert.ReferenceIdeal.Gen
open Idealize.ShloMosaic
open Cert.Loss (nl sg tv sv total)

theorem tl_apply (a0 : FVec Ideal S4096x64 .f32) (w : FVec Ideal S8192x64 .f32) (b : FVec Ideal S8192 .f32) (a5 : FVec Ideal S4096x1 .f32) (r : Fin 4096) :
    tl a0 w b a5 (ix2 r 0) = (∑ k : Fin 64, a0 (ix2 r k) * w (ix2 ⟨r.val, by omega⟩ k)) + b (ix1 ⟨r.val, by omega⟩) - Ideal.log (a5 (ix2 r 0)) := by
  pointwise [tl]

theorem sl_apply (a0 : FVec Ideal S4096x64 .f32) (w : FVec Ideal S8192x64 .f32) (b : FVec Ideal S8192 .f32) (a6 : FVec Ideal S4096 .f32) (r s : Fin 4096) :
    sl a0 w b a6 (ix2 r s) = (∑ k : Fin 64, a0 (ix2 r k) * w (ix2 ⟨4096 + s.val, by omega⟩ k)) + b (ix1 ⟨4096 + s.val, by omega⟩) - Ideal.log (a6 (ix1 s)) := by
  pointwise [sl]

theorem bce_apply (l p : FVec Ideal S4096x4097 .f32) (j : S4096x4097.Idx) :
    bce l p j = -(l j * Ideal.log (min 1 (max (Ideal.ofBits .f32 0x2B8CBCCC#32) (p j)))
      + (1 - l j) * Ideal.log (min 1 (max (Ideal.ofBits .f32 0x2B8CBCCC#32) (1 - p j)))) := by
  pointwise [bce, lc]
  show -(l j * Ideal.log (min (Ideal.ofBits .f32 0x3F800000#32) _) + (1 - l j) * Ideal.log (min (Ideal.ofBits .f32 0x3F800000#32) _)) = _
  rw [Ideal.ofBits_one_f32]
  rfl

theorem lb_apply (r : Fin 4096) (j : Fin 4097) : (lb : FVec Ideal S4096x4097 .f32) (ix2 r j) = if j.val < 1 then 1 else 0 := by
  pointwise [lb]
  rw [show Ideal.div 1 1 = 1 from by rw [← EReal.coe_one, Ideal.div_coe one_ne_zero, div_one, ← EReal.coe_mul, mul_one]]
  split <;> rfl

theorem pr_apply (x : FVec Ideal S4096x4097 .f32) (j : S4096x4097.Idx) : pr x j = sg (x j) := by
  pointwise [pr, sg]

theorem lg_apply (t : FVec Ideal S4096x1 .f32) (s : FVec Ideal S4096x4096 .f32) (r : Fin 4096) (j : Fin 4097) :
    lg t s (ix2 r j) = if h : j.val < 1 then t (ix2 r 0) else s (ix2 r ⟨j.val - 1, by omega⟩) := by
  pointwise [lg]
  split
  · exact congrArg (fun q => t (ix2 r q)) (Subsingleton.elim _ _)
  · rfl

theorem mean_apply (x : FVec Ideal S4096x4097 .f32) (j : S_.Idx) :
    mean x j = Ideal.div (∑ r : Fin 4096, ∑ k : Fin 4097, x (ix2 r k)) (Ideal.ofBits .f32 0x4B800800#32) := by
  pointwise [mean]

end Cert.ReferenceIdeal.Parts

end
-- ==== Proof.RefTotal.lean ====
/-
  The reference's result: the cross entropy's total over the number of its terms.
-/
module

public import proofs.«01_k».proof.Proof.RefRead

@[expose] public section

set_option maxRecDepth 16384

noncomputable section

namespace Cert.ReferenceIdeal.Parts

open Cert.ReferenceIdeal Cert.ReferenceIdeal.Gen
open Idealize.ShloMosaic
open Cert.Loss (nl sg tv sv total)

/-- The number of terms, as the mean divides by it. -/
theorem count_bits : Ideal.ofBits .f32 0x4B800800#32 = ((16781312 : ℝ) : EReal) := by
  simp [Ideal.ofBits, Ideal.ieee, -EReal.coe_mul]; norm_num

/-- The term of a true label. -/
theorem bce_one (p : EReal) : -((1 : EReal) * Ideal.log (min 1 (max (Ideal.ofBits .f32 0x2B8CBCCC#32) p))
    + (1 - 1) * Ideal.log (min 1 (max (Ideal.ofBits .f32 0x2B8CBCCC#32) (1 - p)))) = nl p := by
  rw [show (1 : EReal) - 1 = 0 from by rw [← EReal.coe_one, ← EReal.coe_sub, sub_self, EReal.coe_zero], zero_mul, one_mul, add_zero]
  rfl

/-- The term of a sampled candidate. -/
theorem bce_zero (p : EReal) : -((0 : EReal) * Ideal.log (min 1 (max (Ideal.ofBits .f32 0x2B8CBCCC#32) p))
    + (1 - 0) * Ideal.log (min 1 (max (Ideal.ofBits .f32 0x2B8CBCCC#32) (1 - p)))) = nl (1 - p) := by
  rw [sub_zero, zero_mul, one_mul, zero_add]
  rfl

theorem loss_apply (a0 : FVec Ideal S4096x64 .f32) (a1 : IVec S4096x1 32) (a2 : FVec Ideal S100000x64 .f32) (a3 : FVec Ideal S100000 .f32) (a4 : IVec S4096 32)
    (a5 : FVec Ideal S4096x1 .f32) (a6 : FVec Ideal S4096 .f32) (hi : ∀ x, (lid a1 a4 x).toNat < 100000) (j : S_.Idx) :
    loss a0 a1 a2 a3 a4 a5 a6 j
      = total (fun r k => a0 (ix2 r k)) (fun p k => a2 (ix2 p k)) (fun p => a3 (ix1 p)) (fun r => ⟨(lid a1 a4 (ix1 r)).toNat, hi _⟩) (fun r => a5 (ix2 r 0)) (fun r => a6 (ix1 r))
        * (((16781312 : ℝ)⁻¹ : ℝ) : EReal) := by
  unfold loss
  rw [mean_apply, count_bits, Ideal.div_coe (by norm_num), one_div]
  congr 1
  refine Finset.sum_congr rfl fun r _ => ?_
  rw [Fin.sum_univ_succ]
  congr 1
  · rw [bce_apply, lb_apply, pr_apply, lg_apply, dif_pos (by decide), if_pos (by decide), bce_one, tl_apply]
    simp only [takeW_apply hi, takeB_apply hi]
    rfl
  · refine Finset.sum_congr rfl fun s _ => ?_
    rw [bce_apply, lb_apply, pr_apply, lg_apply, dif_neg (by show ¬ s.val + 1 < 1; omega), if_neg (by show ¬ s.val + 1 < 1; omega), bce_zero, sl_apply]
    simp only [takeW_apply hi, takeB_apply hi]
    rfl

end Cert.ReferenceIdeal.Parts

end
-- ==== Proof.TcRead.lean ====
/-
  The TensorCore body's terms at the ideal instance, read at an index.
-/
module

public import proofs.«01_k».proof.Proof.KernelIdealTcRun
public import Idealize.ShloMosaic.Lib.Pointwise

@[expose] public section

set_option maxRecDepth 16384

noncomputable section

namespace Cert.KernelIdeal.Read

open Cert.KernelIdeal Cert.KernelIdeal.Gen
open Idealize.ShloMosaic

/-- A flag as a float. -/
theorem flag (b : Prop) [Decidable b] : FloatOps.sitofp (F := Ideal) .f32 (BitVec.setWidth 32 (BitVec.ofBool (decide b))) = if b then (1 : EReal) else 0 := by
  by_cases h : b
  · rw [if_pos h, decide_eq_true h]
    show (((1 : ℤ) : ℝ) : EReal) = 1
    norm_num
  · rw [if_neg h, decide_eq_false h]
    show (((0 : ℤ) : ℝ) : EReal) = 0
    norm_num

theorem and_one (v : BitVec 32) : (IntOp.andi v 1#32).toNat = v.toNat % 2 := by
  show (v &&& 1#32).toNat = _
  rw [BitVec.toNat_and]
  exact Nat.and_two_pow_sub_one_eq_mod _ 1

theorem and_127 (v : BitVec 32) : (IntOp.andi v 127#32).toNat = v.toNat % 128 := by
  show (v &&& 127#32).toNat = _
  rw [BitVec.toNat_and]
  exact Nat.and_two_pow_sub_one_eq_mod _ 7

theorem eq_word (a b : BitVec 32) : IntOp.cmpi .eq a b = BitVec.ofBool (decide (a.toNat = b.toNat)) :=
  congrArg BitVec.ofBool (by
    show decide (a = b) = _
    exact decide_eq_decide.mpr BitVec.toNat_inj.symm)

theorem word_int (l : ℕ) (h : l < 128) : (BitVec.ofNat 32 l).toInt = l := by
  rw [BitVec.toInt_eq_toNat_cond, BitVec.toNat_ofNat, Nat.mod_eq_of_lt (by omega), if_pos (by omega)]

theorem slt_word (l : ℕ) (h : l < 128) : IntOp.cmpi .slt (BitVec.ofNat 32 l) 64#32 = BitVec.ofBool (decide (l < 64)) := by
  refine congrArg BitVec.ofBool ?_
  show (BitVec.ofNat 32 l).slt 64#32 = _
  rw [BitVec.slt_eq_decide, word_int l h, show (64#32).toInt = 64 from by decide]
  refine decide_eq_decide.mpr ?_
  omega

theorem sge_word (l : ℕ) (h : l < 128) : IntOp.cmpi .sge (BitVec.ofNat 32 l) 64#32 = BitVec.ofBool (decide (64 ≤ l)) := by
  refine congrArg BitVec.ofBool ?_
  show (64#32).sle (BitVec.ofNat 32 l) = _
  rw [BitVec.sle_eq_decide, word_int l h, show (64#32).toInt = 64 from by decide]
  refine decide_eq_decide.mpr ?_
  omega

/-- The half mask: 1 in the half of the row that the id's parity names. -/
theorem half_mask (l : ℕ) (h : l < 128) (v : BitVec 32) :
    FloatOps.sitofp (F := Ideal) .f32 (BitVec.setWidth 32 (IntOp.ori
      (IntOp.andi (IntOp.cmpi .slt (BitVec.ofNat 32 l) 64#32) (IntOp.cmpi .eq (IntOp.andi v 1#32) 0#32))
      (IntOp.andi (IntOp.cmpi .sge (BitVec.ofNat 32 l) 64#32) (IntOp.cmpi .eq (IntOp.andi v 1#32) 1#32))))
      = if l / 64 = v.toNat % 2 then (1 : EReal) else 0 := by
  rw [slt_word l h, sge_word l h, eq_word, eq_word, and_one]
  have e : IntOp.ori (IntOp.andi (BitVec.ofBool (decide (l < 64))) (BitVec.ofBool (decide (v.toNat % 2 = (0#32).toNat))))
      (IntOp.andi (BitVec.ofBool (decide (64 ≤ l))) (BitVec.ofBool (decide (v.toNat % 2 = (1#32).toNat))))
      = BitVec.ofBool (decide (l / 64 = v.toNat % 2)) := by
    have h2 : v.toNat % 2 < 2 := Nat.mod_lt _ (by decide)
    rcases (show v.toNat % 2 = 0 ∨ v.toNat % 2 = 1 by omega) with e | e <;> by_cases hl : l < 64
    · simp [e, hl, IntOp.ori, IntOp.andi, show l / 64 = 0 by omega]
    · simp [e, hl, IntOp.ori, IntOp.andi, show l / 64 = 1 by omega]
    · simp [e, hl, IntOp.ori, IntOp.andi, show l / 64 = 0 by omega, show ¬ 64 ≤ l by omega]
    · simp [e, hl, IntOp.ori, IntOp.andi, show l / 64 = 1 by omega, show 64 ≤ l by omega]
  rw [e]
  exact flag _

theorem half_lo (k : Fin 64) (v : BitVec 32) : FloatOps.sitofp (F := Ideal) .f32 (BitVec.setWidth 32 (IntOp.ori
      (IntOp.andi (IntOp.cmpi .slt (BitVec.ofNat 32 k.val) 64#32) (IntOp.cmpi .eq (IntOp.andi v 1#32) 0#32))
      (IntOp.andi (IntOp.cmpi .sge (BitVec.ofNat 32 k.val) 64#32) (IntOp.cmpi .eq (IntOp.andi v 1#32) 1#32))))
      = if k.val / 64 = v.toNat % 2 then (1 : EReal) else 0 := half_mask _ (by omega) v

theorem half_hi (k : Fin 64) (v : BitVec 32) : FloatOps.sitofp (F := Ideal) .f32 (BitVec.setWidth 32 (IntOp.ori
      (IntOp.andi (IntOp.cmpi .slt (BitVec.ofNat 32 (64 + k.val)) 64#32) (IntOp.cmpi .eq (IntOp.andi v 1#32) 0#32))
      (IntOp.andi (IntOp.cmpi .sge (BitVec.ofNat 32 (64 + k.val)) 64#32) (IntOp.cmpi .eq (IntOp.andi v 1#32) 1#32))))
      = if (64 + k.val) / 64 = v.toNat % 2 then (1 : EReal) else 0 := half_mask _ (by omega) v

/-- The one-hot mask: 1 in the lane that the id's low seven bits name. -/
theorem one_hot (l : ℕ) (h : l < 128) (v : BitVec 32) :
    FloatOps.sitofp (F := Ideal) .f32 (BitVec.setWidth 32 (IntOp.cmpi .eq (BitVec.ofNat 32 l) (IntOp.andi v 127#32)))
      = if l = v.toNat % 128 then (1 : EReal) else 0 := by
  rw [eq_word, and_127, BitVec.toNat_ofNat, Nat.mod_eq_of_lt (by omega)]
  exact flag _

theorem first_lane (l : ℕ) (h : l < 128) :
    FloatOps.sitofp (F := Ideal) .f32 (BitVec.setWidth 32 (IntOp.cmpi .eq (BitVec.ofNat 32 l) 0#32)) = if l = 0 then (1 : EReal) else 0 := by
  rw [eq_word, BitVec.toNat_ofNat, Nat.mod_eq_of_lt (by omega)]
  exact flag _

theorem pay3_apply (x7 : IVec S4096x1 32) (x5 : FVec Ideal S4096x128 .f32) (s : Fin 4096) (l : Fin 128) :
    k1_pay3 x7 x5 (ix2 s l) = x5 (ix2 s l) * (if l.val / 64 = (x7 (ix2 s 0)).toNat % 2 then 1 else 0) := by
  pointwise [k1_pay3, k1_pay2]
  rw [half_mask _ l.isLt]

theorem pay4_apply (s : Fin 4096) (l : Fin 128) :
    (k1_pay4 (F := Ideal)) (ix2 s l) = if l.val = 0 then 1 else 0 := by
  pointwise [k1_pay4]
  rw [first_lane _ l.isLt]

theorem pay5_apply (x7 : IVec S4096x1 32) (x5 : FVec Ideal S4096x128 .f32) (s : Fin 4096) (l : Fin 128) :
    k1_pay5 x7 x5 (ix2 s l) = x5 (ix2 s l) * (if l.val = (x7 (ix2 s 0)).toNat % 128 then 1 else 0) := by
  pointwise [k1_pay5, k1_pay2]
  rw [one_hot _ l.isLt]

theorem pay6_apply (a b : FVec Ideal S4096x128 .f32) (x8 : FVec Ideal S4096x1 .f32) (s : Fin 4096) (l : Fin 128) :
    k1_pay6 a b x8 (ix2 s l) = b (ix2 s l) - a (ix2 s l) * Ideal.log (x8 (ix2 s 0)) := by
  pointwise [k1_pay6]

/-- Over the two halves of a masked row, the half that the parity names. -/
theorem pick_half (x : Fin 64 → EReal) (w : Fin 128 → EReal) (p : ℕ) (hp : p < 2) :
    (∑ k : Fin 64, x k * (w ⟨k.val, by omega⟩ * (if k.val / 64 = p then 1 else 0))
      + ∑ k : Fin 64, x k * (w ⟨64 + k.val, by omega⟩ * (if (64 + k.val) / 64 = p then 1 else 0)))
      = ∑ k : Fin 64, x k * w ⟨64 * p + k.val, by omega⟩ := by
  rw [← Finset.sum_add_distrib]
  refine Finset.sum_congr rfl fun k _ => ?_
  rcases (show p = 0 ∨ p = 1 by omega) with rfl | rfl
  · rw [if_pos (by omega), if_neg (by omega), mul_one, mul_zero, mul_zero, add_zero]
    exact congrArg (fun q => x k * w q) (Fin.ext (by show k.val = 64 * 0 + k.val; omega))
  · rw [if_neg (by omega), if_pos (by omega), mul_one, mul_zero, mul_zero, zero_add]

/-- Over the lanes of a masked row, the lane that is named. -/
theorem pick_lane (b : Fin 128 → EReal) (q : ℕ) (hq : q < 128) : ∑ l : Fin 128, b l * (if l.val = q then 1 else 0) = b ⟨q, hq⟩ := by
  rw [Finset.sum_eq_single ⟨q, hq⟩ (fun l _ hl => by rw [if_neg (fun e => hl (Fin.ext e)), mul_zero]) (fun h => absurd (Finset.mem_univ _) h),
    if_pos rfl, mul_one]

/-- A sampled logit: the doubled row with its ones against a row of the matrix. -/
theorem rhs_dot (x : Fin 64 → EReal) (x5 x6 : FVec Ideal S4096x128 .f32) (x7 : IVec S4096x1 32) (x8 : FVec Ideal S4096x1 .f32) (s : Fin 4096) :
    (∑ j : Fin 256, (if h : j.val < 64 then x ⟨j.val, h⟩ else if h : j.val - 64 < 64 then x ⟨j.val - 64, h⟩ else 1)
        * Run.rhs (F := Ideal) x5 x6 x7 x8 (ix2 s j))
      = (∑ k : Fin 64, x k * x5 (ix2 s ⟨64 * ((x7 (ix2 s 0)).toNat % 2) + k.val, by omega⟩))
        + (x6 (ix2 s ⟨(x7 (ix2 s 0)).toNat % 128, by omega⟩) - Ideal.log (x8 (ix2 s 0))) := by
  rw [Fin.sum_univ_two_halves 128 128 rfl]
  congr 1
  · rw [Fin.sum_univ_two_halves 64 64 rfl, ← pick_half x (fun l => x5 (ix2 s l)) _ (Nat.mod_lt _ (by decide))]
    congr 1
    · refine Finset.sum_congr rfl fun k _ => ?_
      have e : Run.rhs (F := Ideal) x5 x6 x7 x8 (ix2 s ⟨k.val, by omega⟩) = k1_pay3 (F := Ideal) x7 x5 (ix2 s ⟨k.val, by omega⟩) := dif_pos (by show k.val < 128; omega)
      rw [dif_pos (by show k.val < 64; omega), e, pay3_apply]
    · refine Finset.sum_congr rfl fun k _ => ?_
      have e : Run.rhs (F := Ideal) x5 x6 x7 x8 (ix2 s ⟨64 + k.val, by omega⟩) = k1_pay3 (F := Ideal) x7 x5 (ix2 s ⟨64 + k.val, by omega⟩) := dif_pos (by show 64 + k.val < 128; omega)
      rw [dif_neg (by show ¬ 64 + k.val < 64; omega), dif_pos (by show 64 + k.val - 64 < 64; omega), e, pay3_apply]
      exact congrArg (fun q => x q * _) (Fin.ext (by show 64 + k.val - 64 = k.val; omega))
  · have e : ∀ l : Fin 128, (if h : 128 + l.val < 64 then x ⟨128 + l.val, h⟩ else if h : 128 + l.val - 64 < 64 then x ⟨128 + l.val - 64, h⟩ else 1)
          * Run.rhs (F := Ideal) x5 x6 x7 x8 (ix2 s ⟨128 + l.val, by omega⟩)
        = x6 (ix2 s l) * (if l.val = (x7 (ix2 s 0)).toNat % 128 then 1 else 0) + (-Ideal.log (x8 (ix2 s 0))) * (if l.val = 0 then 1 else 0) := fun l => by
      have e : Run.rhs (F := Ideal) x5 x6 x7 x8 (ix2 s ⟨128 + l.val, by omega⟩)
          = k1_pay6 (F := Ideal) k1_pay4 (k1_pay5 x7 x6) x8 (ix2 s ⟨128 + l.val - 128, by omega⟩) := dif_neg (by show ¬ 128 + l.val < 128; omega)
      have el : (⟨128 + l.val - 128, by omega⟩ : Fin 128) = l := Fin.ext (by show 128 + l.val - 128 = l.val; omega)
      rw [dif_neg (by omega), dif_neg (by omega), e, pay6_apply, el, pay4_apply, pay5_apply, one_mul, sub_eq_add_neg, mul_comm (-_), mul_neg]
    rw [Finset.sum_congr rfl fun l _ => e l, Finset.sum_add_distrib, pick_lane (fun l => x6 (ix2 s l)) _ (Nat.mod_lt _ (by decide)),
      pick_lane (fun _ => -Ideal.log (x8 (ix2 s 0))) 0 (by decide), sub_eq_add_neg]

theorem pay7_apply (x : FVec Ideal S256x64 .f32) (R : FVec Ideal S4096x256 .f32) :
    k1_pay7 (F := Ideal) x R = ∑ r : Fin 256, ∑ s : Fin 4096, (0 - Ideal.log (min 1 (max (Ideal.ofBits .f32 0x2B8CBCCC#32) (1 - Ideal.logistic
      (∑ j : Fin 256, (if h : j.val < 64 then x (ix2 r ⟨j.val, h⟩) else if h : j.val - 64 < 64 then x (ix2 r ⟨j.val - 64, h⟩) else 1) * R (ix2 s j)))))) := by
  pointwise [k1_pay7]

theorem pay14_apply (v : EReal) (x0 : FVec Ideal S256x64 .f32) (x1 x2 : FVec Ideal S256x128 .f32) (x3 : IVec S256x1 32) (x4 : FVec Ideal S256x1 .f32) :
    k1_pay14 (F := Ideal) v (k1_pay8 (F := Ideal) x3) (k1_pay9 x0) (k1_pay10 x1) (iota .tc S256x128 32 [1] iota_S256x128_d1_w32) (k1_pay11 (F := Ideal) x3) (k1_pay12 (F := Ideal) x3) k1_pay13 x2 x4
      = v + ∑ r : Fin 256, (0 - Ideal.log (min 1 (max (Ideal.ofBits .f32 0x2B8CBCCC#32) (Ideal.logistic
        ((∑ k : Fin 64, x0 (ix2 r k) * x1 (ix2 r ⟨64 * ((x3 (ix2 r 0)).toNat % 2) + k.val, by omega⟩))
          + x2 (ix2 r ⟨(x3 (ix2 r 0)).toNat % 128, by omega⟩)
          - Ideal.log (x4 (ix2 r 0))))))) := by
  pointwise [k1_pay14, k1_pay8, k1_pay9, k1_pay10, k1_pay11, k1_pay12, k1_pay13]
  refine congrArg (v + ·) (Finset.sum_congr rfl fun r _ => ?_)
  rw [← pick_half (fun k => x0 (ix2 r k)) (fun l => x1 (ix2 r l)) _ (Nat.mod_lt _ (by decide)), ← pick_lane (fun l => x2 (ix2 r l)) _ (Nat.mod_lt _ (by decide))]
  simp only [half_lo, half_hi, one_hot _ (Fin.isLt _)]
  exact Fin.sum_univ_one _

end Cert.KernelIdeal.Read

end
-- ==== Proof.RowRead.lean ====
/-
  The gathered rows and the TensorCore call's operands, element by element.
-/
module

public import proofs.«01_k».proof.Proof.KernelIdealIds
public import Idealize.ShloMosaic.Lib.Pointwise

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)

variable {F : FTy → Type} [FloatOps F] [Named F]
variable (m : (ℓ : Loc nD τ sig) → Buf (Elt F) ℓ)

/-- A row of the id array, laid out by tile, half and lane, is its place in the flat list. -/
theorem unflat (x : IVec S8192 32) (r : Fin 8192) : shapeCast S32x2x128 x shapeCasts_S8192_S32x2x128 (rowIx r) = x (ix1 r) := by
  show shapeCast S32x2x128 x shapeCasts_S8192_S32x2x128 (ix3 ⟨r.val / 256, by omega⟩ ⟨r.val / 128 % 2, by omega⟩ ⟨r.val % 128, by omega⟩) = x (ix1 r)
  pointwise

/-- Two rows of the table lie side by side in one row of its wide form. -/
theorem pair_rows (w : FVec F S100000x64 .f32) (p : Fin 50000) (l : Fin 128) (i : Fin 100000) (k : Fin 64) (hi : 2 * p.val + l.val / 64 = i.val) (hk : l.val % 64 = k.val) :
    shapeCast S50000x128 w shapeCasts_S100000x64_S50000x128 (ix2 p l) = w (ix2 i k) := by
  pointwise
  exact congrArg w (congrArg₂ ix2 (Fin.ext (by show p.val * 2 + l.val / 64 = i.val; omega)) (Fin.ext hk))

/-- The biases lie 128 to a row, behind them zeros. -/
theorem bias_rows (b : FVec F S100000 .f32) (z : FVec F S_ .f32) (p : Fin 782) (l : Fin 128) (i : Fin 100000) (h : 128 * p.val + l.val = i.val) :
    shapeCast S782x128 (pad S100096 ![0] ![96] ![0] b z pads_S100000_S100096_0960 h_S_) shapeCasts_S100096_S782x128 (ix2 p l) = b (ix1 i) := by
  pointwise
  rw [dif_pos (by omega)]
  exact congrArg b (congrArg ix1 (Fin.ext (by show p.val * 128 + l.val = i.val; omega)))

theorem wi_apply (d : Dev nD) (r : Fin 8192) (h : (ids m d (ix1 r)).toNat < 100000) : ((inA m).wi d (rowIx r)).toNat = (ids m d (ix1 r)).toNat / 2 := by
  rw [A_wi, unflat]
  show (IntOp.shrsi .host (ids m d (ix1 r)) (BitVec.ofNat 32 1)).toNat = _
  exact shr_word _ 1 (by decide) (by omega)

theorem bi_apply (d : Dev nD) (r : Fin 8192) (h : (ids m d (ix1 r)).toNat < 100000) : ((inA m).bi d (rowIx r)).toNat = (ids m d (ix1 r)).toNat / 128 := by
  rw [A_bi, unflat]
  show (IntOp.shrsi .host (ids m d (ix1 r)) (BitVec.ofNat 32 7)).toNat = _
  exact shr_word _ 7 (by decide) (by omega)

/-- A gathered row of weights, in the half that the id's parity names, is the id's row of the table. -/
theorem gw_apply (d : Dev nD) (r : Fin 8192) (h : (ids m d (ix1 r)).toNat < 100000) (k : Fin 64) :
    (inA m).gw d (ix2 r ⟨64 * ((ids m d (ix1 r)).toNat % 2) + k.val, by omega⟩) = (m ((d : Thread nD τ).loc main_arg2) : FVec F S100000x64 .f32) (ix2 ⟨(ids m d (ix1 r)).toNat, h⟩ k) := by
  show (inA m).wt d (ix2 ⟨((inA m).wi d (rowIx r)).toNat % 50000, _⟩ ⟨64 * ((ids m d (ix1 r)).toNat % 2) + k.val, _⟩) = _
  rw [A_wt]
  refine pair_rows _ _ _ _ _ ?_ ?_
  · show 2 * (((inA m).wi d (rowIx r)).toNat % 50000) + (64 * ((ids m d (ix1 r)).toNat % 2) + k.val) / 64 = (ids m d (ix1 r)).toNat
    rw [wi_apply m d r h]; omega
  · show (64 * ((ids m d (ix1 r)).toNat % 2) + k.val) % 64 = k.val
    omega

/-- A gathered row of biases, in the lane that the id's low seven bits name, is the id's bias. -/
theorem gb_apply (d : Dev nD) (r : Fin 8192) (h : (ids m d (ix1 r)).toNat < 100000) :
    (inA m).gb d (ix2 r ⟨(ids m d (ix1 r)).toNat % 128, by omega⟩) = (m ((d : Thread nD τ).loc main_arg3) : FVec F S100000 .f32) (ix1 ⟨(ids m d (ix1 r)).toNat, h⟩) := by
  show (inA m).bt d (ix2 ⟨((inA m).bi d (rowIx r)).toNat % 782, _⟩ ⟨(ids m d (ix1 r)).toNat % 128, _⟩) = _
  rw [A_bt]
  refine bias_rows _ _ _ _ _ ?_
  show 128 * (((inA m).bi d (rowIx r)).toNat % 782) + (ids m d (ix1 r)).toNat % 128 = (ids m d (ix1 r)).toNat
  rw [bi_apply m d r h]; omega

/-! ## The operands of the TensorCore call -/

theorem v12_apply (d : Dev nD) (r : Fin 4096) (l : Fin 128) :
    (VC m d (Proc.devRef .tc main_v12 : DevRef τ sig) : FVec F S4096x128 .f32) (ix2 r l) = (inA m).gw d (ix2 ⟨r.val, by omega⟩ l) := by
  rw [VC_v12]
  generalize (inA m).gw d = g
  pointwise

theorem v13_apply (d : Dev nD) (r : Fin 4096) (l : Fin 128) :
    (VC m d (Proc.devRef .tc main_v13 : DevRef τ sig) : FVec F S4096x128 .f32) (ix2 r l) = (inA m).gb d (ix2 ⟨r.val, by omega⟩ l) := by
  rw [VC_v13]
  generalize (inA m).gb d = g
  pointwise

theorem v15_apply (d : Dev nD) (r : Fin 4096) :
    (VC m d (Proc.devRef .tc main_v15 : DevRef τ sig) : IVec S4096x1 32) (ix2 r 0) = ids m d (ix1 ⟨r.val, by omega⟩) := by
  rw [VC_v15]
  generalize ids m d = g
  pointwise

theorem v16_apply (d : Dev nD) (r : Fin 4096) (l : Fin 128) :
    (VC m d (Proc.devRef .tc main_v16 : DevRef τ sig) : FVec F S4096x128 .f32) (ix2 r l) = (inA m).gw d (ix2 ⟨4096 + r.val, by omega⟩ l) := by
  rw [VC_v16]
  generalize (inA m).gw d = g
  pointwise

theorem v17_apply (d : Dev nD) (r : Fin 4096) (l : Fin 128) :
    (VC m d (Proc.devRef .tc main_v17 : DevRef τ sig) : FVec F S4096x128 .f32) (ix2 r l) = (inA m).gb d (ix2 ⟨4096 + r.val, by omega⟩ l) := by
  rw [VC_v17]
  generalize (inA m).gb d = g
  pointwise

theorem v19_apply (d : Dev nD) (r : Fin 4096) :
    (VC m d (Proc.devRef .tc main_v19 : DevRef τ sig) : IVec S4096x1 32) (ix2 r 0) = ids m d (ix1 ⟨4096 + r.val, by omega⟩) := by
  rw [VC_v19]
  generalize ids m d = g
  pointwise

theorem v20_apply (d : Dev nD) (r : Fin 4096) :
    (VC m d (Proc.devRef .tc main_v20 : DevRef τ sig) : FVec F S4096x1 .f32) (ix2 r 0) = (m ((d : Thread nD τ).loc main_arg6) : FVec F S4096 .f32) (ix1 r) := by
  rw [VC_v20]
  generalize (m ((d : Thread nD τ).loc main_arg6) : FVec F S4096 .f32) = g
  pointwise

end Cert.KernelIdeal.Run

end
-- ==== Proof.BlockRead.lean ====
/-
  What each block of the TensorCore call holds, element by element, and the total the call leaves.
-/
module

public import proofs.«01_k».proof.Proof.KernelIdealTc
public import Idealize.ShloMosaic.Lib.Pipeline.ValueKit
public import Idealize.ShloMosaic.Lib.Pointwise

@[expose] public section

set_option maxRecDepth 16384

noncomputable section

namespace Cert.KernelIdeal.Run

open Cert.KernelIdeal Cert.KernelIdeal.Gen

open Idealize.ShloMosaic Idealize.ShloMosaic.TcCoe
open Idealize.ShloMosaic.Pipeline (Dat Cfg Window)

variable {F : FTy → Type} [FloatOps F] [Named F]
variable (V : (c : Dev nD) → (b : Ref sig .tc) → Buf (Elt F) ((c : Thread nD τ).loc b))

theorem point_lt (t : Fin cfg1.N) : t.val < 16 := lt_of_lt_of_eq t.isLt (show cfg1.N = 16 from N_1)

theorem idx0 : ∀ t : Fin cfg1.N, win1_0.index t = ![t.val, 0] := by decide +kernel
theorem blk0_apply (c : Dev nD) (t : Fin cfg1.N) (r : Fin 256) (k : Fin 64) :
    iblk V c 0 t (ix2 r k) = (V c main_arg0 : FVec F S4096x64 .f32) (ix2 ⟨256 * t.val + r.val, by have := point_lt t; omega⟩ k) := by
  blk_ext [iblk, idx0 t]

theorem idx1 : ∀ t : Fin cfg1.N, win1_1.index t = ![t.val, 0] := by decide +kernel
theorem blk1_apply (c : Dev nD) (t : Fin cfg1.N) (r : Fin 256) (k : Fin 128) :
    iblk V c 1 t (ix2 r k) = (V c main_v12 : FVec F S4096x128 .f32) (ix2 ⟨256 * t.val + r.val, by have := point_lt t; omega⟩ k) := by
  blk_ext [iblk, idx1 t]

theorem idx2 : ∀ t : Fin cfg1.N, win1_2.index t = ![t.val, 0] := by decide +kernel
theorem blk2_apply (c : Dev nD) (t : Fin cfg1.N) (r : Fin 256) (k : Fin 128) :
    iblk V c 2 t (ix2 r k) = (V c main_v13 : FVec F S4096x128 .f32) (ix2 ⟨256 * t.val + r.val, by have := point_lt t; omega⟩ k) := by
  blk_ext [iblk, idx2 t]

theorem idx3 : ∀ t : Fin cfg1.N, win1_3.index t = ![t.val, 0] := by decide +kernel
theorem blk3_apply (c : Dev nD) (t : Fin cfg1.N) (r : Fin 256) (k : Fin 1) :
    iblk V c 3 t (ix2 r k) = (V c main_v15 : IVec S4096x1 32) (ix2 ⟨256 * t.val + r.val, by have := point_lt t; omega⟩ k) := by
  blk_ext [iblk, idx3 t]

theorem idx4 : ∀ t : Fin cfg1.N, win1_4.index t = ![t.val, 0] := by decide +kernel
theorem blk4_apply (c : Dev nD) (t : Fin cfg1.N) (r : Fin 256) (k : Fin 1) :
    iblk V c 4 t (ix2 r k) = (V c main_arg5 : FVec F S4096x1 .f32) (ix2 ⟨256 * t.val + r.val, by have := point_lt t; omega⟩ k) := by
  blk_ext [iblk, idx4 t]

theorem idx5 : ∀ t : Fin cfg1.N, win1_5.index t = ![0, 0] := by decide +kernel
theorem blk5_eq (c : Dev nD) (t : Fin cfg1.N) : iblk V c 5 t = (V c main_v16 : FVec F S4096x128 .f32) := by
  funext y
  blk_ext [iblk, idx5 t]

theorem idx6 : ∀ t : Fin cfg1.N, win1_6.index t = ![0, 0] := by decide +kernel
theorem blk6_eq (c : Dev nD) (t : Fin cfg1.N) : iblk V c 6 t = (V c main_v17 : FVec F S4096x128 .f32) := by
  funext y
  blk_ext [iblk, idx6 t]

theorem idx7 : ∀ t : Fin cfg1.N, win1_7.index t = ![0, 0] := by decide +kernel
theorem blk7_eq (c : Dev nD) (t : Fin cfg1.N) : iblk V c 7 t = (V c main_v19 : IVec S4096x1 32) := by
  funext y
  blk_ext [iblk, idx7 t]

theorem idx8 : ∀ t : Fin cfg1.N, win1_8.index t = ![0, 0] := by decide +kernel
theorem blk8_eq (c : Dev nD) (t : Fin cfg1.N) : iblk V c 8 t = (V c main_v20 : FVec F S4096x1 .f32) := by
  funext y
  blk_ext [iblk, idx8 t]

theorem outV_apply (c : Dev nD) (j : S1x1.Idx) : (outV V c : FVec F S1x1 .f32) j = accV V c 15 (by rw [show cfg1.N = 16 from N_1]; decide) := by
  have h : outV V c = fun _ => accV V c 15 (by rw [show cfg1.N = 16 from N_1]; decide) := by
    refine (dat V c).arrAt_eq_of_after_last 9 t1_15 (by decide +kernel) _ fun j => ?_
    rw [after1_9]
    rfl
  exact congrFun h j

end Cert.KernelIdeal.Run

end
-- ==== Proof.TcTotal.lean ====
/-
  The kernel's result: each block's share, and the running total scaled point by point.
-/
module

public import proofs.«01_k».proof.Proof.TcRead
public import proofs.«01_k».proof.Proof.RowRead
public import proofs.«01_k».proof.Proof.BlockRead
public import proofs.«01_k».proof.Proof.LossMath

@[expose] public section

set_option maxRecDepth 16384

noncomputable section

namespace Cert.KernelIdeal.Read

open Cert.KernelIdeal Cert.KernelIdeal.Gen Cert.KernelIdeal.Run
open Idealize.ShloMosaic Idealize.ShloMosaic.TcCoe
open Cert.Loss (nl sg tv sv total)

/-- A block's share: its rows against every sampled candidate, then its rows against their own labels. -/
theorem part_apply (x0 : FVec Ideal S256x64 .f32) (x1 x2 : FVec Ideal S256x128 .f32) (x3 : IVec S256x1 32) (x4 : FVec Ideal S256x1 .f32)
    (x5 x6 : FVec Ideal S4096x128 .f32) (x7 : IVec S4096x1 32) (x8 : FVec Ideal S4096x1 .f32) :
    part (F := Ideal) x0 x1 x2 x3 x4 (rhs (F := Ideal) x5 x6 x7 x8)
      = (∑ r : Fin 256, ∑ s : Fin 4096, nl (1 - sg ((∑ k : Fin 64, x0 (ix2 r k) * x5 (ix2 s ⟨64 * ((x7 (ix2 s 0)).toNat % 2) + k.val, by omega⟩))
          + (x6 (ix2 s ⟨(x7 (ix2 s 0)).toNat % 128, by omega⟩) - Ideal.log (x8 (ix2 s 0))))))
        + ∑ r : Fin 256, nl (sg ((∑ k : Fin 64, x0 (ix2 r k) * x1 (ix2 r ⟨64 * ((x3 (ix2 r 0)).toNat % 2) + k.val, by omega⟩))
          + x2 (ix2 r ⟨(x3 (ix2 r 0)).toNat % 128, by omega⟩) - Ideal.log (x4 (ix2 r 0)))) := by
  unfold part
  rw [pay14_apply, pay7_apply]
  congr 1
  · refine Finset.sum_congr rfl fun r _ => Finset.sum_congr rfl fun s _ => ?_
    rw [rhs_dot (fun k => x0 (ix2 r k)), zero_sub]
    rfl
  · refine Finset.sum_congr rfl fun r _ => ?_
    rw [zero_sub]
    rfl

variable (m : (ℓ : Loc nD τ sig) → Buf (Elt Ideal) ℓ)

/-- What the arguments are, as plain functions. -/
def x (d : Dev nD) (r : Fin 4096) (k : Fin 64) : EReal := (m ((d : Thread nD τ).loc main_arg0) : FVec Ideal S4096x64 .f32) (ix2 r k)
def w (d : Dev nD) (p : Fin 100000) (k : Fin 64) : EReal := (m ((d : Thread nD τ).loc main_arg2) : FVec Ideal S100000x64 .f32) (ix2 p k)
def b (d : Dev nD) (p : Fin 100000) : EReal := (m ((d : Thread nD τ).loc main_arg3) : FVec Ideal S100000 .f32) (ix1 p)
def e5 (d : Dev nD) (r : Fin 4096) : EReal := (m ((d : Thread nD τ).loc main_arg5) : FVec Ideal S4096x1 .f32) (ix2 r 0)
def e6 (d : Dev nD) (r : Fin 4096) : EReal := (m ((d : Thread nD τ).loc main_arg6) : FVec Ideal S4096 .f32) (ix1 r)

variable (d : Dev nD) (hi : ∀ i, (ids m d i).toNat < 100000)

def i (r : Fin 8192) : Fin 100000 := ⟨(ids m d (ix1 r)).toNat, hi _⟩

/-- A gathered row read in the lane that a word equal to the row's id names. -/
theorem gw_lane (r : Fin 8192) (v : BitVec 32) (hv : v = ids m d (ix1 r)) (k : Fin 64) (h : 64 * (v.toNat % 2) + k.val < 128) :
    ((inA m).gw d : FVec Ideal S8192x128 .f32) (ix2 r ⟨64 * (v.toNat % 2) + k.val, h⟩) = w m d (i m d hi r) k := by
  subst hv
  exact gw_apply m d r (hi _) k

theorem gb_lane (r : Fin 8192) (v : BitVec 32) (hv : v = ids m d (ix1 r)) (h : v.toNat % 128 < 128) :
    ((inA m).gb d : FVec Ideal S8192x128 .f32) (ix2 r ⟨v.toNat % 128, h⟩) = b m d (i m d hi r) := by
  subst hv
  exact gb_apply m d r (hi _)

theorem own_w (r : Fin 4096) (k : Fin 64) (h) :
    (VC m d (Proc.devRef .tc main_v12 : DevRef τ sig) : FVec Ideal S4096x128 .f32) (ix2 r ⟨64 * (BitVec.toNat ((VC m d (Proc.devRef .tc main_v15 : DevRef τ sig) : IVec S4096x1 32) (ix2 r 0)) % 2) + k.val, h⟩) = w m d (i m d hi ⟨r.val, by omega⟩) k :=
  (v12_apply m d r _).trans (gw_lane m d hi _ _ (v15_apply m d r) k h)

theorem own_b (r : Fin 4096) (h) :
    (VC m d (Proc.devRef .tc main_v13 : DevRef τ sig) : FVec Ideal S4096x128 .f32) (ix2 r ⟨BitVec.toNat ((VC m d (Proc.devRef .tc main_v15 : DevRef τ sig) : IVec S4096x1 32) (ix2 r 0)) % 128, h⟩) = b m d (i m d hi ⟨r.val, by omega⟩) :=
  (v13_apply m d r _).trans (gb_lane m d hi _ _ (v15_apply m d r) h)

theorem samp_w (r : Fin 4096) (k : Fin 64) (h) :
    (VC m d (Proc.devRef .tc main_v16 : DevRef τ sig) : FVec Ideal S4096x128 .f32) (ix2 r ⟨64 * (BitVec.toNat ((VC m d (Proc.devRef .tc main_v19 : DevRef τ sig) : IVec S4096x1 32) (ix2 r 0)) % 2) + k.val, h⟩) = w m d (i m d hi ⟨4096 + r.val, by omega⟩) k :=
  (v16_apply m d r _).trans (gw_lane m d hi _ _ (v19_apply m d r) k h)

theorem samp_b (r : Fin 4096) (h) :
    (VC m d (Proc.devRef .tc main_v17 : DevRef τ sig) : FVec Ideal S4096x128 .f32) (ix2 r ⟨BitVec.toNat ((VC m d (Proc.devRef .tc main_v19 : DevRef τ sig) : IVec S4096x1 32) (ix2 r 0)) % 128, h⟩) = b m d (i m d hi ⟨4096 + r.val, by omega⟩) :=
  (v17_apply m d r _).trans (gb_lane m d hi _ _ (v19_apply m d r) h)

theorem partV_apply (t : Fin cfg1.N) :
    partV (F := Ideal) (fun c b => VC m c b) d t
      = (∑ r : Fin 256, ∑ s : Fin 4096, nl (1 - sg (sv (x m d) (w m d) (b m d) (i m d hi) (e6 m d) ⟨256 * t.val + r.val, by have := point_lt t; omega⟩ s)))
        + ∑ r : Fin 256, nl (sg (tv (x m d) (w m d) (b m d) (i m d hi) (e5 m d) ⟨256 * t.val + r.val, by have := point_lt t; omega⟩)) := by
  unfold partV rhsV
  rw [part_apply, blk5_eq, blk6_eq, blk7_eq, blk8_eq]
  refine congrArg₂ (fun a b : EReal => a + b) ?_ ?_
  · refine Finset.sum_congr rfl fun r _ => Finset.sum_congr rfl fun s _ => ?_
    simp only [blk0_apply, VC_arg m d main_arg0 (by decide) (by decide) (by decide) (by decide)]
    refine congrArg (fun z => nl (1 - sg z)) ?_
    refine (congrArg₂ (fun a b : EReal => a + b) (Finset.sum_congr rfl fun k _ => congrArg₂ (fun a b : EReal => a * b) rfl (samp_w m d hi s k _))
      (congrArg₂ (fun a b : EReal => a - b) (samp_b m d hi s _) (congrArg Ideal.log (v20_apply m d s)))).trans ?_
    show _ + (_ - _) = _ + _ - _
    rw [sub_eq_add_neg, ← add_assoc, ← sub_eq_add_neg]
    rfl
  · refine Finset.sum_congr rfl fun r _ => ?_
    simp only [blk0_apply, blk1_apply, blk2_apply, blk3_apply, blk4_apply, VC_arg m d main_arg0 (by decide) (by decide) (by decide) (by decide),
      VC_arg m d main_arg5 (by decide) (by decide) (by decide) (by decide)]
    refine congrArg (fun z => nl (sg z)) ?_
    exact congrArg₂ (fun a b : EReal => a - b) (congrArg₂ (fun a b : EReal => a + b) (Finset.sum_congr rfl fun k _ => congrArg₂ (fun a b : EReal => a * b) rfl (own_w m d hi _ k _))
      (own_b m d hi _ _)) rfl

/-- The scale. -/
theorem scale_eq : Named.named (F := Ideal) κ "scale" (φ := .f32) 0x337FF001#32 = ((16781312⁻¹ : ℝ) : EReal) := rfl

theorem scale_nonneg : (0 : EReal) ≤ ((16781312⁻¹ : ℝ) : EReal) := by
  rw [← EReal.coe_zero, EReal.coe_le_coe_iff]; norm_num

theorem pay1_apply (v acc : EReal) : k1_pay1 (F := Ideal) v acc = acc + v * ((16781312⁻¹ : ℝ) : EReal) := rfl

variable (V : (c : Dev nD) → (b : Ref sig .tc) → Buf (Elt Ideal) ((c : Thread nD τ).loc b))

theorem accV_sum (n : ℕ) (h : n < cfg1.N) : accV (F := Ideal) V d n h
    = ∑ k ∈ Finset.range (n + 1), (if hk : k < cfg1.N then partV (F := Ideal) V d ⟨k, hk⟩ else 0) * ((16781312⁻¹ : ℝ) : EReal) := by
  induction n with
  | zero =>
    rw [Finset.sum_range_one, dif_pos h]
    show k1_pay1 (F := Ideal) (partV V d ⟨0, h⟩) (Ideal.ofBits .f32 0x00000000#32) = _
    rw [pay1_apply, Ideal.ofBits_zero_f32, zero_add]
  | succ n ih =>
    rw [Finset.sum_range_succ, ← ih (Nat.lt_of_succ_lt h), dif_pos h]
    rfl

theorem total_eq (j : S1x1.Idx) : (outV (F := Ideal) (fun c b => VC m c b) d : FVec Ideal S1x1 .f32) j
    = total (x m d) (w m d) (b m d) (i m d hi) (e5 m d) (e6 m d) * ((16781312⁻¹ : ℝ) : EReal) := by
  rw [outV_apply, accV_sum, Cert.Loss.sum_scaled _ scale_nonneg (EReal.coe_ne_top _)]
  refine congrArg (fun a : EReal => a * ((16781312⁻¹ : ℝ) : EReal)) ?_
  rw [Finset.sum_range, total, ← Cert.Loss.sum_blocks]
  refine Finset.sum_congr rfl fun t _ => ?_
  rw [dif_pos (by rw [show cfg1.N = 16 from N_1]; exact t.isLt), partV_apply m d hi, Finset.sum_add_distrib, add_comm]

end Cert.KernelIdeal.Read

end
-- ==== Proof.Algebraic.lean ====
/-
  The kernel's result is the reference's, over the extended reals.
-/
module

public import proofs.«01_k».proof.Proof.Frames
public import proofs.«01_k».proof.Proof.RefTotal
public import proofs.«01_k».proof.Proof.TcTotal

@[expose] public section

set_option maxRecDepth 16384

noncomputable section

namespace Cert.Proof

open Idealize.ShloMosaic Idealize.ShloMosaic.TcCoe Idealize.SL.Sem

/-- At the same arguments, every id in the table, the two results are one value. -/
theorem results_eq (m : (ℓ : Loc Cert.KernelIdeal.nD Cert.KernelIdeal.τ Cert.KernelIdeal.sig) → Buf (Elt Ideal) ℓ) (d : Dev Cert.KernelIdeal.nD)
    (hi : ∀ i, (Cert.KernelIdeal.Run.ids m d i).toNat < 100000) :
    (shapeCast Cert.KernelIdeal.S_ (Cert.KernelIdeal.Run.outV (F := Ideal) (fun c b => Cert.KernelIdeal.Run.VC m c b) d : FVec Ideal Cert.KernelIdeal.S1x1 .f32) Cert.KernelIdeal.Gen.shapeCasts_S1x1_S_ : FVec Ideal Cert.KernelIdeal.S_ .f32)
      = Cert.ReferenceIdeal.Parts.loss (F := Ideal) (m ((d.tc : Thread Cert.KernelIdeal.nD Cert.KernelIdeal.τ).loc Cert.KernelIdeal.main_arg0))
          (m ((d.tc : Thread Cert.KernelIdeal.nD Cert.KernelIdeal.τ).loc Cert.KernelIdeal.main_arg1))
          (m ((d.tc : Thread Cert.KernelIdeal.nD Cert.KernelIdeal.τ).loc Cert.KernelIdeal.main_arg2))
          (m ((d.tc : Thread Cert.KernelIdeal.nD Cert.KernelIdeal.τ).loc Cert.KernelIdeal.main_arg3))
          (m ((d.tc : Thread Cert.KernelIdeal.nD Cert.KernelIdeal.τ).loc Cert.KernelIdeal.main_arg4))
          (m ((d.tc : Thread Cert.KernelIdeal.nD Cert.KernelIdeal.τ).loc Cert.KernelIdeal.main_arg5))
          (m ((d.tc : Thread Cert.KernelIdeal.nD Cert.KernelIdeal.τ).loc Cert.KernelIdeal.main_arg6)) := by
  funext j
  exact (Cert.KernelIdeal.Read.total_eq m d hi _).trans (Cert.ReferenceIdeal.Parts.loss_apply _ _ _ _ _ _ _ hi j).symm

theorem algebraic : Cert.algebraic_KernelIdeal_ReferenceIdeal := fun m g m' g' h hagree =>
  ⟨fun c => shapeCast Cert.KernelIdeal.S_ (Cert.KernelIdeal.Run.outV (F := Ideal) (fun c b => Cert.KernelIdeal.Run.VC m c b) c) Cert.KernelIdeal.Gen.shapeCasts_S1x1_S_,
    (θ_run _ _ _).mono (fun _ h => h.1) (Cert.KernelIdeal.Run.run_args m g (ok_pi m h)),
    (θ_run _ _ _).mono (fun r hr c => ⟨(hr c).1.trans (by
      have hi := Cert.KernelIdeal.Run.idsOk m c (Cert.IdRange.bounds _ _ _ _ _ _ _ (h c)).1 (Cert.IdRange.bounds _ _ _ _ _ _ _ (h c)).2
      obtain ⟨h0, h1, h2, h3, h4, h5, h6⟩ := hagree c
      rw [Cert.ReferenceIdeal.Parts.res_eq, h0, h1, h2, h3, h4, h5, h6]
      exact (results_eq m c hi).symm), (hr c).2⟩) (Cert.ReferenceIdeal.Value.run (F := Ideal) m' g')⟩

end Cert.Proof

end
-- ==== Proof.lean ====
/-
  The claims together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_ids_in_range.Gen.facts,
  frame_p, frame_pi, frame_ri, frame_ri_pre, preserves, algebraic⟩

end Cert.Proof

end
